-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2x512 : Shape := ⟨2, ![2, 512]⟩
abbrev S8x2x512 : Shape := ⟨3, ![8, 2, 512]⟩
abbrev S4x2x512 : Shape := ⟨3, ![4, 2, 512]⟩
abbrev S8 : Shape := ⟨1, ![8]⟩
abbrev S4 : Shape := ⟨1, ![4]⟩
abbrev S_ : Shape := ⟨0, ![]⟩
abbrev S512 : Shape := ⟨1, ![512]⟩
abbrev S1x512 : Shape := ⟨2, ![1, 512]⟩
abbrev S1 : Shape := ⟨1, ![1]⟩
abbrev S1x2x512 : Shape := ⟨3, ![1, 2, 512]⟩
abbrev S8x1x512 : Shape := ⟨3, ![8, 1, 512]⟩
abbrev S8x512 : Shape := ⟨2, ![8, 512]⟩
abbrev S4x1x512 : Shape := ⟨3, ![4, 1, 512]⟩
abbrev S4x512 : Shape := ⟨2, ![4, 512]⟩

abbrev nBuf : Space → Nat
  | .hbm => 2
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S2x512, .f32⟩
  | .local _ .vmem, ⟨0, _⟩ => ⟨S512x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S8x2x512, .f32⟩
  | .local _ .vmem, ⟨5, _⟩ => ⟨S4x2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .ne v29 c0_i32_11
  let v32 : BitVec 32 := Scalar.extui v31
  let c0_i32_12 : BitVec 32 := 0#32
  let v33 : BitVec 1 := Scalar.cmpi .ne v32 c0_i32_12
  v33

def k0_dev1 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_220 : BitVec 32 := 8#32
  let v261 : BitVec 32 := Scalar.muli v19 c8_i32_220
  let c0_i32_221 : BitVec 32 := 0#32
  let v262 : BitVec 32 := Scalar.addi v261 c0_i32_221
  let c1_i32_223 : BitVec 32 := 1#32
  let v263 : BitVec 32 := Scalar.muli v262 c1_i32_223
  let v264 : BitVec 32 := Scalar.addi c0_i32_224 v263
  v264.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 1 := Scalar.cmpi .ne v29 c1_i32_13
  let v35 : BitVec 32 := Scalar.extui v34
  let c0_i32_14 : BitVec 32 := 0#32
  let v36 : BitVec 1 := Scalar.cmpi .ne v35 c0_i32_14
  v36

def k0_dev2 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_220 : BitVec 32 := 8#32
  let v261 : BitVec 32 := Scalar.muli v19 c8_i32_220
  let c1_i32_221 : BitVec 32 := 1#32
  let v262 : BitVec 32 := Scalar.addi v261 c1_i32_221
  let c1_i32_223 : BitVec 32 := 1#32
  let v263 : BitVec 32 := Scalar.muli v262 c1_i32_223
  let v264 : BitVec 32 := Scalar.addi c0_i32_224 v263
  v264.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v37 : BitVec 1 := Scalar.cmpi .ne v29 c2_i32
  let v38 : BitVec 32 := Scalar.extui v37
  let c0_i32_15 : BitVec 32 := 0#32
  let v39 : BitVec 1 := Scalar.cmpi .ne v38 c0_i32_15
  v39

def k0_dev3 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_220 : BitVec 32 := 8#32
  let v261 : BitVec 32 := Scalar.muli v19 c8_i32_220
  let c2_i32_221 : BitVec 32 := 2#32
  let v262 : BitVec 32 := Scalar.addi v261 c2_i32_221
  let c1_i32_223 : BitVec 32 := 1#32
  let v263 : BitVec 32 := Scalar.muli v262 c1_i32_223
  let v264 : BitVec 32 := Scalar.addi c0_i32_224 v263
  v264.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v40 : BitVec 1 := Scalar.cmpi .ne v29 c3_i32
  let v41 : BitVec 32 := Scalar.extui v40
  let c0_i32_16 : BitVec 32 := 0#32
  let v42 : BitVec 1 := Scalar.cmpi .ne v41 c0_i32_16
  v42

def k0_dev4 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_220 : BitVec 32 := 8#32
  let v261 : BitVec 32 := Scalar.muli v19 c8_i32_220
  let c3_i32_221 : BitVec 32 := 3#32
  let v262 : BitVec 32 := Scalar.addi v261 c3_i32_221
  let c1_i32_223 : BitVec 32 := 1#32
  let v263 : BitVec 32 := Scalar.muli v262 c1_i32_223
  let v264 : BitVec 32 := Scalar.addi c0_i32_224 v263
  v264.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let v43 : BitVec 1 := Scalar.cmpi .ne v29 c4_i32
  let v44 : BitVec 32 := Scalar.extui v43
  let c0_i32_17 : BitVec 32 := 0#32
  let v45 : BitVec 1 := Scalar.cmpi .ne v44 c0_i32_17
  v45

def k0_dev5 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_220 : BitVec 32 := 8#32
  let v261 : BitVec 32 := Scalar.muli v19 c8_i32_220
  let c4_i32_221 : BitVec 32 := 4#32
  let v262 : BitVec 32 := Scalar.addi v261 c4_i32_221
  let c1_i32_223 : BitVec 32 := 1#32
  let v263 : BitVec 32 := Scalar.muli v262 c1_i32_223
  let v264 : BitVec 32 := Scalar.addi c0_i32_224 v263
  v264.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32 : BitVec 32 := 5#32
  let v46 : BitVec 1 := Scalar.cmpi .ne v29 c5_i32
  let v47 : BitVec 32 := Scalar.extui v46
  let c0_i32_18 : BitVec 32 := 0#32
  let v48 : BitVec 1 := Scalar.cmpi .ne v47 c0_i32_18
  v48

def k0_dev6 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_220 : BitVec 32 := 8#32
  let v261 : BitVec 32 := Scalar.muli v19 c8_i32_220
  let c5_i32_221 : BitVec 32 := 5#32
  let v262 : BitVec 32 := Scalar.addi v261 c5_i32_221
  let c1_i32_223 : BitVec 32 := 1#32
  let v263 : BitVec 32 := Scalar.muli v262 c1_i32_223
  let v264 : BitVec 32 := Scalar.addi c0_i32_224 v263
  v264.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32 : BitVec 32 := 6#32
  let v49 : BitVec 1 := Scalar.cmpi .ne v29 c6_i32
  let v50 : BitVec 32 := Scalar.extui v49
  let c0_i32_19 : BitVec 32 := 0#32
  let v51 : BitVec 1 := Scalar.cmpi .ne v50 c0_i32_19
  v51

def k0_dev7 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_220 : BitVec 32 := 8#32
  let v261 : BitVec 32 := Scalar.muli v19 c8_i32_220
  let c6_i32_221 : BitVec 32 := 6#32
  let v262 : BitVec 32 := Scalar.addi v261 c6_i32_221
  let c1_i32_223 : BitVec 32 := 1#32
  let v263 : BitVec 32 := Scalar.muli v262 c1_i32_223
  let v264 : BitVec 32 := Scalar.addi c0_i32_224 v263
  v264.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32 : BitVec 32 := 7#32
  let v52 : BitVec 1 := Scalar.cmpi .ne v29 c7_i32
  let v53 : BitVec 32 := Scalar.extui v52
  let c0_i32_20 : BitVec 32 := 0#32
  let v54 : BitVec 1 := Scalar.cmpi .ne v53 c0_i32_20
  v54

def k0_dev8 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_220 : BitVec 32 := 8#32
  let v261 : BitVec 32 := Scalar.muli v19 c8_i32_220
  let c7_i32_221 : BitVec 32 := 7#32
  let v262 : BitVec 32 := Scalar.addi v261 c7_i32_221
  let c1_i32_223 : BitVec 32 := 1#32
  let v263 : BitVec 32 := Scalar.muli v262 c1_i32_223
  let v264 : BitVec 32 := Scalar.addi c0_i32_224 v263
  v264.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_21 : BitVec 32 := 0#32
  let v55 : BitVec 1 := Scalar.cmpi .ne v19 c0_i32_21
  let v56 : BitVec 32 := Scalar.extui v55
  let c0_i32_22 : BitVec 32 := 0#32
  let v57 : BitVec 1 := Scalar.cmpi .ne v56 c0_i32_22
  v57

def k0_dev9 (d0 : Dev nD) : Nat :=
  let c0_i32_223 : BitVec 32 := 0#32
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v261 : BitVec 32 := Scalar.addi c0_i32_220 v29
  let c1_i32_222 : BitVec 32 := 1#32
  let v262 : BitVec 32 := Scalar.muli v261 c1_i32_222
  let v263 : BitVec 32 := Scalar.addi c0_i32_223 v262
  v263.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_23 : BitVec 32 := 1#32
  let v58 : BitVec 1 := Scalar.cmpi .ne v19 c1_i32_23
  let v59 : BitVec 32 := Scalar.extui v58
  let c0_i32_24 : BitVec 32 := 0#32
  let v60 : BitVec 1 := Scalar.cmpi .ne v59 c0_i32_24
  v60

def k0_dev10 (d0 : Dev nD) : Nat :=
  let c0_i32_223 : BitVec 32 := 0#32
  let c8_i32_220 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v261 : BitVec 32 := Scalar.addi c8_i32_220 v29
  let c1_i32_222 : BitVec 32 := 1#32
  let v262 : BitVec 32 := Scalar.muli v261 c1_i32_222
  let v263 : BitVec 32 := Scalar.addi c0_i32_223 v262
  v263.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_25 : BitVec 32 := 2#32
  let v61 : BitVec 1 := Scalar.cmpi .ne v19 c2_i32_25
  let v62 : BitVec 32 := Scalar.extui v61
  let c0_i32_26 : BitVec 32 := 0#32
  let v63 : BitVec 1 := Scalar.cmpi .ne v62 c0_i32_26
  v63

def k0_dev11 (d0 : Dev nD) : Nat :=
  let c0_i32_223 : BitVec 32 := 0#32
  let c16_i32_220 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v261 : BitVec 32 := Scalar.addi c16_i32_220 v29
  let c1_i32_222 : BitVec 32 := 1#32
  let v262 : BitVec 32 := Scalar.muli v261 c1_i32_222
  let v263 : BitVec 32 := Scalar.addi c0_i32_223 v262
  v263.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_27 : BitVec 32 := 3#32
  let v64 : BitVec 1 := Scalar.cmpi .ne v19 c3_i32_27
  let v65 : BitVec 32 := Scalar.extui v64
  let c0_i32_28 : BitVec 32 := 0#32
  let v66 : BitVec 1 := Scalar.cmpi .ne v65 c0_i32_28
  v66

def k0_dev12 (d0 : Dev nD) : Nat :=
  let c0_i32_223 : BitVec 32 := 0#32
  let c24_i32_220 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v261 : BitVec 32 := Scalar.addi c24_i32_220 v29
  let c1_i32_222 : BitVec 32 := 1#32
  let v262 : BitVec 32 := Scalar.muli v261 c1_i32_222
  let v263 : BitVec 32 := Scalar.addi c0_i32_223 v262
  v263.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_38 : BitVec 32 := 0#32
  let v91 : BitVec 1 := Scalar.cmpi .ne v29 c0_i32_38
  let v92 : BitVec 32 := Scalar.extui v91
  let c0_i32_40 : BitVec 32 := 0#32
  let v93 : BitVec 1 := Scalar.cmpi .ne v92 c0_i32_40
  v93

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_222 : BitVec 32 := 0#32
  let c0_i32_223 : BitVec 32 := 0#32
  ![v29.toNat, 0, 0]
def k0_dev13 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v89 : BitVec 32 := Scalar.muli v19 c8_i32_36
  let c0_i32_37 : BitVec 32 := 0#32
  let v90 : BitVec 32 := Scalar.addi v89 c0_i32_37
  let c1_i32_220 : BitVec 32 := 1#32
  let v261 : BitVec 32 := Scalar.muli v90 c1_i32_220
  let v262 : BitVec 32 := Scalar.addi c0_i32_221 v261
  v262.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_43 : BitVec 32 := 1#32
  let v96 : BitVec 1 := Scalar.cmpi .ne v29 c1_i32_43
  let v97 : BitVec 32 := Scalar.extui v96
  let c0_i32_45 : BitVec 32 := 0#32
  let v98 : BitVec 1 := Scalar.cmpi .ne v97 c0_i32_45
  v98

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_222 : BitVec 32 := 0#32
  let c0_i32_223 : BitVec 32 := 0#32
  ![v29.toNat, 0, 0]
def k0_dev14 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_41 : BitVec 32 := 8#32
  let v94 : BitVec 32 := Scalar.muli v19 c8_i32_41
  let c1_i32_42 : BitVec 32 := 1#32
  let v95 : BitVec 32 := Scalar.addi v94 c1_i32_42
  let c1_i32_220 : BitVec 32 := 1#32
  let v261 : BitVec 32 := Scalar.muli v95 c1_i32_220
  let v262 : BitVec 32 := Scalar.addi c0_i32_221 v261
  v262.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_48 : BitVec 32 := 2#32
  let v101 : BitVec 1 := Scalar.cmpi .ne v29 c2_i32_48
  let v102 : BitVec 32 := Scalar.extui v101
  let c0_i32_50 : BitVec 32 := 0#32
  let v103 : BitVec 1 := Scalar.cmpi .ne v102 c0_i32_50
  v103

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_222 : BitVec 32 := 0#32
  let c0_i32_223 : BitVec 32 := 0#32
  ![v29.toNat, 0, 0]
def k0_dev15 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_46 : BitVec 32 := 8#32
  let v99 : BitVec 32 := Scalar.muli v19 c8_i32_46
  let c2_i32_47 : BitVec 32 := 2#32
  let v100 : BitVec 32 := Scalar.addi v99 c2_i32_47
  let c1_i32_220 : BitVec 32 := 1#32
  let v261 : BitVec 32 := Scalar.muli v100 c1_i32_220
  let v262 : BitVec 32 := Scalar.addi c0_i32_221 v261
  v262.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_53 : BitVec 32 := 3#32
  let v106 : BitVec 1 := Scalar.cmpi .ne v29 c3_i32_53
  let v107 : BitVec 32 := Scalar.extui v106
  let c0_i32_55 : BitVec 32 := 0#32
  let v108 : BitVec 1 := Scalar.cmpi .ne v107 c0_i32_55
  v108

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_222 : BitVec 32 := 0#32
  let c0_i32_223 : BitVec 32 := 0#32
  ![v29.toNat, 0, 0]
def k0_dev16 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_51 : BitVec 32 := 8#32
  let v104 : BitVec 32 := Scalar.muli v19 c8_i32_51
  let c3_i32_52 : BitVec 32 := 3#32
  let v105 : BitVec 32 := Scalar.addi v104 c3_i32_52
  let c1_i32_220 : BitVec 32 := 1#32
  let v261 : BitVec 32 := Scalar.muli v105 c1_i32_220
  let v262 : BitVec 32 := Scalar.addi c0_i32_221 v261
  v262.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_58 : BitVec 32 := 4#32
  let v111 : BitVec 1 := Scalar.cmpi .ne v29 c4_i32_58
  let v112 : BitVec 32 := Scalar.extui v111
  let c0_i32_60 : BitVec 32 := 0#32
  let v113 : BitVec 1 := Scalar.cmpi .ne v112 c0_i32_60
  v113

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_222 : BitVec 32 := 0#32
  let c0_i32_223 : BitVec 32 := 0#32
  ![v29.toNat, 0, 0]
def k0_dev17 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v109 : BitVec 32 := Scalar.muli v19 c8_i32_56
  let c4_i32_57 : BitVec 32 := 4#32
  let v110 : BitVec 32 := Scalar.addi v109 c4_i32_57
  let c1_i32_220 : BitVec 32 := 1#32
  let v261 : BitVec 32 := Scalar.muli v110 c1_i32_220
  let v262 : BitVec 32 := Scalar.addi c0_i32_221 v261
  v262.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_63 : BitVec 32 := 5#32
  let v116 : BitVec 1 := Scalar.cmpi .ne v29 c5_i32_63
  let v117 : BitVec 32 := Scalar.extui v116
  let c0_i32_65 : BitVec 32 := 0#32
  let v118 : BitVec 1 := Scalar.cmpi .ne v117 c0_i32_65
  v118

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_222 : BitVec 32 := 0#32
  let c0_i32_223 : BitVec 32 := 0#32
  ![v29.toNat, 0, 0]
def k0_dev18 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c5_i32_62 : BitVec 32 := 5#32
  let v115 : BitVec 32 := Scalar.addi v114 c5_i32_62
  let c1_i32_220 : BitVec 32 := 1#32
  let v261 : BitVec 32 := Scalar.muli v115 c1_i32_220
  let v262 : BitVec 32 := Scalar.addi c0_i32_221 v261
  v262.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_68 : BitVec 32 := 6#32
  let v121 : BitVec 1 := Scalar.cmpi .ne v29 c6_i32_68
  let v122 : BitVec 32 := Scalar.extui v121
  let c0_i32_70 : BitVec 32 := 0#32
  let v123 : BitVec 1 := Scalar.cmpi .ne v122 c0_i32_70
  v123

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_222 : BitVec 32 := 0#32
  let c0_i32_223 : BitVec 32 := 0#32
  ![v29.toNat, 0, 0]
def k0_dev19 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_66 : BitVec 32 := 8#32
  let v119 : BitVec 32 := Scalar.muli v19 c8_i32_66
  let c6_i32_67 : BitVec 32 := 6#32
  let v120 : BitVec 32 := Scalar.addi v119 c6_i32_67
  let c1_i32_220 : BitVec 32 := 1#32
  let v261 : BitVec 32 := Scalar.muli v120 c1_i32_220
  let v262 : BitVec 32 := Scalar.addi c0_i32_221 v261
  v262.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_73 : BitVec 32 := 7#32
  let v126 : BitVec 1 := Scalar.cmpi .ne v29 c7_i32_73
  let v127 : BitVec 32 := Scalar.extui v126
  let c0_i32_75 : BitVec 32 := 0#32
  let v128 : BitVec 1 := Scalar.cmpi .ne v127 c0_i32_75
  v128

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_222 : BitVec 32 := 0#32
  let c0_i32_223 : BitVec 32 := 0#32
  ![v29.toNat, 0, 0]
def k0_dev20 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_71 : BitVec 32 := 8#32
  let v124 : BitVec 32 := Scalar.muli v19 c8_i32_71
  let c7_i32_72 : BitVec 32 := 7#32
  let v125 : BitVec 32 := Scalar.addi v124 c7_i32_72
  let c1_i32_220 : BitVec 32 := 1#32
  let v261 : BitVec 32 := Scalar.muli v125 c1_i32_220
  let v262 : BitVec 32 := Scalar.addi c0_i32_221 v261
  v262.toNat
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v131 : Index := Scalar.indexCast v29
  let c0_78 : Index := 0#32
  let c0_79 : Index := 0#32
  ![v131.toNat, 0, 0]
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_134 : BitVec 32 := 0#32
  let v178 : BitVec 1 := Scalar.cmpi .ne v19 c0_i32_134
  let v179 : BitVec 32 := Scalar.extui v178
  let c0_i32_136 : BitVec 32 := 0#32
  let v180 : BitVec 1 := Scalar.cmpi .ne v179 c0_i32_136
  v180

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_222 : BitVec 32 := 0#32
  let c0_i32_223 : BitVec 32 := 0#32
  ![v19.toNat, 0, 0]
def k0_dev21 (d0 : Dev nD) : Nat :=
  let c0_i32_221 : BitVec 32 := 0#32
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v177 : BitVec 32 := Scalar.addi c0_i32_133 v29
  let c1_i32_220 : BitVec 32 := 1#32
  let v261 : BitVec 32 := Scalar.muli v177 c1_i32_220
  let v262 : BitVec 32 := Scalar.addi c0_i32_221 v261
  v262.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_138 : BitVec 32 := 1#32
  let v182 : BitVec 1 := Scalar.cmpi .ne v19 c1_i32_138
  let v183 : BitVec 32 := Scalar.extui v182
  let c0_i32_140 : BitVec 32 := 0#32
  let v184 : BitVec 1 := Scalar.cmpi .ne v183 c0_i32_140
  v184

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_222 : BitVec 32 := 0#32
  let c0_i32_223 : BitVec 32 := 0#32
  ![v19.toNat, 0, 0]
def k0_dev22 (d0 : Dev nD) : Nat :=
  let c0_i32_221 : BitVec 32 := 0#32
  let c8_i32_137 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v181 : BitVec 32 := Scalar.addi c8_i32_137 v29
  let c1_i32_220 : BitVec 32 := 1#32
  let v261 : BitVec 32 := Scalar.muli v181 c1_i32_220
  let v262 : BitVec 32 := Scalar.addi c0_i32_221 v261
  v262.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_141 : BitVec 32 := 2#32
  let v186 : BitVec 1 := Scalar.cmpi .ne v19 c2_i32_141
  let v187 : BitVec 32 := Scalar.extui v186
  let c0_i32_143 : BitVec 32 := 0#32
  let v188 : BitVec 1 := Scalar.cmpi .ne v187 c0_i32_143
  v188

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_222 : BitVec 32 := 0#32
  let c0_i32_223 : BitVec 32 := 0#32
  ![v19.toNat, 0, 0]
def k0_dev23 (d0 : Dev nD) : Nat :=
  let c0_i32_221 : BitVec 32 := 0#32
  let c16_i32 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v185 : BitVec 32 := Scalar.addi c16_i32 v29
  let c1_i32_220 : BitVec 32 := 1#32
  let v261 : BitVec 32 := Scalar.muli v185 c1_i32_220
  let v262 : BitVec 32 := Scalar.addi c0_i32_221 v261
  v262.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_144 : BitVec 32 := 3#32
  let v190 : BitVec 1 := Scalar.cmpi .ne v19 c3_i32_144
  let v191 : BitVec 32 := Scalar.extui v190
  let c0_i32_146 : BitVec 32 := 0#32
  let v192 : BitVec 1 := Scalar.cmpi .ne v191 c0_i32_146
  v192

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_222 : BitVec 32 := 0#32
  let c0_i32_223 : BitVec 32 := 0#32
  ![v19.toNat, 0, 0]
def k0_dev24 (d0 : Dev nD) : Nat :=
  let c0_i32_221 : BitVec 32 := 0#32
  let c24_i32 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v189 : BitVec 32 := Scalar.addi c24_i32 v29
  let c1_i32_220 : BitVec 32 := 1#32
  let v261 : BitVec 32 := Scalar.muli v189 c1_i32_220
  let v262 : BitVec 32 := Scalar.addi c0_i32_221 v261
  v262.toNat
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v195 : Index := Scalar.indexCast v19
  let c0_149 : Index := 0#32
  let c0_150 : Index := 0#32
  ![v195.toNat, 0, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_184 : BitVec 32 := 0#32
  let v225 : BitVec 1 := Scalar.cmpi .ne v29 c0_i32_184
  let v226 : BitVec 32 := Scalar.extui v225
  let c0_i32_186 : BitVec 32 := 0#32
  let v227 : BitVec 1 := Scalar.cmpi .ne v226 c0_i32_186
  v227

def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_221 : BitVec 32 := 0#32
  let c0_i32_222 : BitVec 32 := 0#32
  ![v29.toNat, 0, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_187 : BitVec 32 := 1#32
  let v228 : BitVec 1 := Scalar.cmpi .ne v29 c1_i32_187
  let v229 : BitVec 32 := Scalar.extui v228
  let c0_i32_189 : BitVec 32 := 0#32
  let v230 : BitVec 1 := Scalar.cmpi .ne v229 c0_i32_189
  v230

def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_221 : BitVec 32 := 0#32
  let c0_i32_222 : BitVec 32 := 0#32
  ![v29.toNat, 0, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_190 : BitVec 32 := 2#32
  let v231 : BitVec 1 := Scalar.cmpi .ne v29 c2_i32_190
  let v232 : BitVec 32 := Scalar.extui v231
  let c0_i32_192 : BitVec 32 := 0#32
  let v233 : BitVec 1 := Scalar.cmpi .ne v232 c0_i32_192
  v233

def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_221 : BitVec 32 := 0#32
  let c0_i32_222 : BitVec 32 := 0#32
  ![v29.toNat, 0, 0]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_193 : BitVec 32 := 3#32
  let v234 : BitVec 1 := Scalar.cmpi .ne v29 c3_i32_193
  let v235 : BitVec 32 := Scalar.extui v234
  let c0_i32_195 : BitVec 32 := 0#32
  let v236 : BitVec 1 := Scalar.cmpi .ne v235 c0_i32_195
  v236

def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_221 : BitVec 32 := 0#32
  let c0_i32_222 : BitVec 32 := 0#32
  ![v29.toNat, 0, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_196 : BitVec 32 := 4#32
  let v237 : BitVec 1 := Scalar.cmpi .ne v29 c4_i32_196
  let v238 : BitVec 32 := Scalar.extui v237
  let c0_i32_198 : BitVec 32 := 0#32
  let v239 : BitVec 1 := Scalar.cmpi .ne v238 c0_i32_198
  v239

def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_221 : BitVec 32 := 0#32
  let c0_i32_222 : BitVec 32 := 0#32
  ![v29.toNat, 0, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_199 : BitVec 32 := 5#32
  let v240 : BitVec 1 := Scalar.cmpi .ne v29 c5_i32_199
  let v241 : BitVec 32 := Scalar.extui v240
  let c0_i32_201 : BitVec 32 := 0#32
  let v242 : BitVec 1 := Scalar.cmpi .ne v241 c0_i32_201
  v242

def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_221 : BitVec 32 := 0#32
  let c0_i32_222 : BitVec 32 := 0#32
  ![v29.toNat, 0, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_202 : BitVec 32 := 6#32
  let v243 : BitVec 1 := Scalar.cmpi .ne v29 c6_i32_202
  let v244 : BitVec 32 := Scalar.extui v243
  let c0_i32_204 : BitVec 32 := 0#32
  let v245 : BitVec 1 := Scalar.cmpi .ne v244 c0_i32_204
  v245

def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_221 : BitVec 32 := 0#32
  let c0_i32_222 : BitVec 32 := 0#32
  ![v29.toNat, 0, 0]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_205 : BitVec 32 := 7#32
  let v246 : BitVec 1 := Scalar.cmpi .ne v29 c7_i32_205
  let v247 : BitVec 32 := Scalar.extui v246
  let c0_i32_207 : BitVec 32 := 0#32
  let v248 : BitVec 1 := Scalar.cmpi .ne v247 c0_i32_207
  v248

def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_221 : BitVec 32 := 0#32
  let c0_i32_222 : BitVec 32 := 0#32
  ![v29.toNat, 0, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_208 : BitVec 32 := 0#32
  let v249 : BitVec 1 := Scalar.cmpi .ne v19 c0_i32_208
  let v250 : BitVec 32 := Scalar.extui v249
  let c0_i32_210 : BitVec 32 := 0#32
  let v251 : BitVec 1 := Scalar.cmpi .ne v250 c0_i32_210
  v251

def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_221 : BitVec 32 := 0#32
  let c0_i32_222 : BitVec 32 := 0#32
  ![v19.toNat, 0, 0]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_211 : BitVec 32 := 1#32
  let v252 : BitVec 1 := Scalar.cmpi .ne v19 c1_i32_211
  let v253 : BitVec 32 := Scalar.extui v252
  let c0_i32_213 : BitVec 32 := 0#32
  let v254 : BitVec 1 := Scalar.cmpi .ne v253 c0_i32_213
  v254

def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_221 : BitVec 32 := 0#32
  let c0_i32_222 : BitVec 32 := 0#32
  ![v19.toNat, 0, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_214 : BitVec 32 := 2#32
  let v255 : BitVec 1 := Scalar.cmpi .ne v19 c2_i32_214
  let v256 : BitVec 32 := Scalar.extui v255
  let c0_i32_216 : BitVec 32 := 0#32
  let v257 : BitVec 1 := Scalar.cmpi .ne v256 c0_i32_216
  v257

def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_221 : BitVec 32 := 0#32
  let c0_i32_222 : BitVec 32 := 0#32
  ![v19.toNat, 0, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_217 : BitVec 32 := 3#32
  let v258 : BitVec 1 := Scalar.cmpi .ne v19 c3_i32_217
  let v259 : BitVec 32 := Scalar.extui v258
  let c0_i32_219 : BitVec 32 := 0#32
  let v260 : BitVec 1 := Scalar.cmpi .ne v259 c0_i32_219
  v260

def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_221 : BitVec 32 := 0#32
  let c0_i32_222 : BitVec 32 := 0#32
  ![v19.toNat, 0, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.KernelIdeal.Links.lean ====
/-
# The links of the mesh

The 32 devices form an 8-wide plane axis and a 4-deep column axis: device `8 z + j` has plane neighbours `8 z + j'` and
column neighbours `8 z' + j`. Every device has twelve numbered links, `0 … 7` to the places of its plane and `8 … 11` to the
places of its column; the link to its own place is idle. This module defines the link geometry, and reads the
kernel's printed conditions, device ids and offsets off it.
-/
module

public import proofs.«01_k».proof.Proof.Gen.KernelIdeal

@[expose] public section

namespace Cert.KernelIdeal.Links

open Cert.KernelIdeal Cert.KernelIdeal.Gen
open Idealize.ShloMosaic Idealize.SL.Sem

/-- The numbers of a device's links: `0 … 7` along its plane, `8 … 11` along its column. -/
abbrev Link : Type := Fin 12

/-- The device at the far end of link `k` of device `c`. -/
def peer (c : Dev nD) (k : Link) : Dev nD :=
  if k.val < 8 then ⟨c.val / 8 * 8 + k.val % 8, by have := c.isLt; simp only [nD] at *; omega⟩
  else ⟨(k.val - 8) * 8 + c.val % 8, by have := k.isLt; simp only [nD]; omega⟩

/-- The number that device `c` has at the far end of its link `k`: its own place in the plane or in the column. -/
def slot (c : Dev nD) (k : Link) : Link :=
  if k.val < 8 then ⟨c.val % 8, by omega⟩ else ⟨8 + c.val / 8, by have := c.isLt; simp only [nD] at *; omega⟩

/-- Link `k` of device `c` leads to another device. -/
abbrev act (c : Dev nD) (k : Link) : Prop := peer c k ≠ c

/-- The link of device `c` to its own place in the plane; -/
def ownP (c : Dev nD) : Link := ⟨c.val % 8, by omega⟩
/-- and in the column. -/
def ownZ (c : Dev nD) : Link := ⟨8 + c.val / 8, by have := c.isLt; simp only [nD] at *; omega⟩

theorem peer_peer : ∀ (c : Dev nD) (k : Link), peer (peer c k) (slot c k) = c := by decide +kernel
theorem slot_slot : ∀ (c : Dev nD) (k : Link), slot (peer c k) (slot c k) = k := by decide +kernel
theorem act_flip : ∀ (c : Dev nD) (k : Link), act (peer c k) (slot c k) ↔ act c k := by decide +kernel
theorem slot_lt : ∀ (c : Dev nD) (k : Link), (slot c k).val < 8 ↔ k.val < 8 := by decide +kernel
theorem peer_ownP : ∀ c : Dev nD, peer c (ownP c) = c := by decide +kernel
theorem peer_ownZ : ∀ c : Dev nD, peer c (ownZ c) = c := by decide +kernel
theorem act_iff_plane : ∀ (c : Dev nD) (k : Link), k.val < 8 → (act c k ↔ k ≠ ownP c) := by decide +kernel
theorem act_iff_col : ∀ (c : Dev nD) (k : Link), ¬ k.val < 8 → (act c k ↔ k ≠ ownZ c) := by decide +kernel
theorem card_act : ∀ c : Dev nD, (Finset.univ.filter (act c)).card = 10 := by decide +kernel

/-- Crossing a link: the far device, and the link there that leads back. -/
def flip : Dev nD × Link ≃ Dev nD × Link where
  toFun x := (peer x.1 x.2, slot x.1 x.2)
  invFun x := (peer x.1 x.2, slot x.1 x.2)
  left_inv x := Prod.ext (peer_peer x.1 x.2) (slot_slot x.1 x.2)
  right_inv x := Prod.ext (peer_peer x.1 x.2) (slot_slot x.1 x.2)

/-! ## The words the kernel computes from its device id -/

/-- A device's place in the column, as the word the kernel computes; -/
def zw (c : Dev nD) : BitVec 32 := BitVec.ofNat 32 (c.val / 8)
/-- its place in the plane; -/
def jw (c : Dev nD) : BitVec 32 := BitVec.ofNat 32 (c.val % 8)
/-- its number. -/
def mw (c : Dev nD) : BitVec 32 := BitVec.ofNat 32 c.val

/-! ## The printed conditions: each guards its link -/

theorem cond1 : ∀ c : Dev nD, k0_cond1 c = 1#1 ↔ act c 0 := by decide +kernel
theorem cond2 : ∀ c : Dev nD, k0_cond2 c = 1#1 ↔ act c 1 := by decide +kernel
theorem cond3 : ∀ c : Dev nD, k0_cond3 c = 1#1 ↔ act c 2 := by decide +kernel
theorem cond4 : ∀ c : Dev nD, k0_cond4 c = 1#1 ↔ act c 3 := by decide +kernel
theorem cond5 : ∀ c : Dev nD, k0_cond5 c = 1#1 ↔ act c 4 := by decide +kernel
theorem cond6 : ∀ c : Dev nD, k0_cond6 c = 1#1 ↔ act c 5 := by decide +kernel
theorem cond7 : ∀ c : Dev nD, k0_cond7 c = 1#1 ↔ act c 6 := by decide +kernel
theorem cond8 : ∀ c : Dev nD, k0_cond8 c = 1#1 ↔ act c 7 := by decide +kernel
theorem cond9 : ∀ c : Dev nD, k0_cond9 c = 1#1 ↔ act c 8 := by decide +kernel
theorem cond10 : ∀ c : Dev nD, k0_cond10 c = 1#1 ↔ act c 9 := by decide +kernel
theorem cond11 : ∀ c : Dev nD, k0_cond11 c = 1#1 ↔ act c 10 := by decide +kernel
theorem cond12 : ∀ c : Dev nD, k0_cond12 c = 1#1 ↔ act c 11 := by decide +kernel
theorem cond13 : ∀ c : Dev nD, k0_cond13 c = 1#1 ↔ act c 0 := by decide +kernel
theorem cond14 : ∀ c : Dev nD, k0_cond14 c = 1#1 ↔ act c 1 := by decide +kernel
theorem cond15 : ∀ c : Dev nD, k0_cond15 c = 1#1 ↔ act c 2 := by decide +kernel
theorem cond16 : ∀ c : Dev nD, k0_cond16 c = 1#1 ↔ act c 3 := by decide +kernel
theorem cond17 : ∀ c : Dev nD, k0_cond17 c = 1#1 ↔ act c 4 := by decide +kernel
theorem cond18 : ∀ c : Dev nD, k0_cond18 c = 1#1 ↔ act c 5 := by decide +kernel
theorem cond19 : ∀ c : Dev nD, k0_cond19 c = 1#1 ↔ act c 6 := by decide +kernel
theorem cond20 : ∀ c : Dev nD, k0_cond20 c = 1#1 ↔ act c 7 := by decide +kernel
theorem cond29 : ∀ c : Dev nD, k0_cond29 c = 1#1 ↔ act c 8 := by decide +kernel
theorem cond30 : ∀ c : Dev nD, k0_cond30 c = 1#1 ↔ act c 9 := by decide +kernel
theorem cond31 : ∀ c : Dev nD, k0_cond31 c = 1#1 ↔ act c 10 := by decide +kernel
theorem cond32 : ∀ c : Dev nD, k0_cond32 c = 1#1 ↔ act c 11 := by decide +kernel
theorem cond37 : ∀ c : Dev nD, k0_cond37 c = 1#1 ↔ act c 0 := by decide +kernel
theorem cond38 : ∀ c : Dev nD, k0_cond38 c = 1#1 ↔ act c 1 := by decide +kernel
theorem cond39 : ∀ c : Dev nD, k0_cond39 c = 1#1 ↔ act c 2 := by decide +kernel
theorem cond40 : ∀ c : Dev nD, k0_cond40 c = 1#1 ↔ act c 3 := by decide +kernel
theorem cond41 : ∀ c : Dev nD, k0_cond41 c = 1#1 ↔ act c 4 := by decide +kernel
theorem cond42 : ∀ c : Dev nD, k0_cond42 c = 1#1 ↔ act c 5 := by decide +kernel
theorem cond43 : ∀ c : Dev nD, k0_cond43 c = 1#1 ↔ act c 6 := by decide +kernel
theorem cond44 : ∀ c : Dev nD, k0_cond44 c = 1#1 ↔ act c 7 := by decide +kernel
theorem cond45 : ∀ c : Dev nD, k0_cond45 c = 1#1 ↔ act c 8 := by decide +kernel
theorem cond46 : ∀ c : Dev nD, k0_cond46 c = 1#1 ↔ act c 9 := by decide +kernel
theorem cond47 : ∀ c : Dev nD, k0_cond47 c = 1#1 ↔ act c 10 := by decide +kernel
theorem cond48 : ∀ c : Dev nD, k0_cond48 c = 1#1 ↔ act c 11 := by decide +kernel

/-- The guard of a plane wait: the place differs from the device's; -/
theorem condJ : ∀ (c : Dev nD) (k : Link), k.val < 8 →
    (Scalar.cmpi .ne (Scalar.extui (Scalar.cmpi .ne (jw c) (BitVec.ofNat 32 k.val)) : BitVec 32) 0#32 = 1#1 ↔ act c k) := by
  decide +kernel
/-- and of a column wait. -/
theorem condZ : ∀ (c : Dev nD) (k : Link), ¬ k.val < 8 →
    (Scalar.cmpi .ne (Scalar.extui (Scalar.cmpi .ne (zw c) (BitVec.ofNat 32 (k.val - 8))) : BitVec 32) 0#32 = 1#1 ↔ act c k) := by
  decide +kernel

/-! ## The printed device ids: each is its link's far end -/

theorem dev1 : ∀ c : Dev nD, k0_dev1 c = (peer c 0).val := by decide +kernel
theorem dev2 : ∀ c : Dev nD, k0_dev2 c = (peer c 1).val := by decide +kernel
theorem dev3 : ∀ c : Dev nD, k0_dev3 c = (peer c 2).val := by decide +kernel
theorem dev4 : ∀ c : Dev nD, k0_dev4 c = (peer c 3).val := by decide +kernel
theorem dev5 : ∀ c : Dev nD, k0_dev5 c = (peer c 4).val := by decide +kernel
theorem dev6 : ∀ c : Dev nD, k0_dev6 c = (peer c 5).val := by decide +kernel
theorem dev7 : ∀ c : Dev nD, k0_dev7 c = (peer c 6).val := by decide +kernel
theorem dev8 : ∀ c : Dev nD, k0_dev8 c = (peer c 7).val := by decide +kernel
theorem dev9 : ∀ c : Dev nD, k0_dev9 c = (peer c 8).val := by decide +kernel
theorem dev10 : ∀ c : Dev nD, k0_dev10 c = (peer c 9).val := by decide +kernel
theorem dev11 : ∀ c : Dev nD, k0_dev11 c = (peer c 10).val := by decide +kernel
theorem dev12 : ∀ c : Dev nD, k0_dev12 c = (peer c 11).val := by decide +kernel
theorem dev13 : ∀ c : Dev nD, k0_dev13 c = (peer c 0).val := by decide +kernel
theorem dev14 : ∀ c : Dev nD, k0_dev14 c = (peer c 1).val := by decide +kernel
theorem dev15 : ∀ c : Dev nD, k0_dev15 c = (peer c 2).val := by decide +kernel
theorem dev16 : ∀ c : Dev nD, k0_dev16 c = (peer c 3).val := by decide +kernel
theorem dev17 : ∀ c : Dev nD, k0_dev17 c = (peer c 4).val := by decide +kernel
theorem dev18 : ∀ c : Dev nD, k0_dev18 c = (peer c 5).val := by decide +kernel
theorem dev19 : ∀ c : Dev nD, k0_dev19 c = (peer c 6).val := by decide +kernel
theorem dev20 : ∀ c : Dev nD, k0_dev20 c = (peer c 7).val := by decide +kernel
theorem dev21 : ∀ c : Dev nD, k0_dev21 c = (peer c 8).val := by decide +kernel
theorem dev22 : ∀ c : Dev nD, k0_dev22 c = (peer c 9).val := by decide +kernel
theorem dev23 : ∀ c : Dev nD, k0_dev23 c = (peer c 10).val := by decide +kernel
theorem dev24 : ∀ c : Dev nD, k0_dev24 c = (peer c 11).val := by decide +kernel

/-! ## The printed offsets: each is the device's own place -/

theorem off1 : ∀ c : Dev nD, k0_off1 c = ![(slot c 0).val] := by decide +kernel
theorem off3 : ∀ c : Dev nD, k0_off3 c = ![(slot c 1).val] := by decide +kernel
theorem off5 : ∀ c : Dev nD, k0_off5 c = ![(slot c 2).val] := by decide +kernel
theorem off7 : ∀ c : Dev nD, k0_off7 c = ![(slot c 3).val] := by decide +kernel
theorem off9 : ∀ c : Dev nD, k0_off9 c = ![(slot c 4).val] := by decide +kernel
theorem off11 : ∀ c : Dev nD, k0_off11 c = ![(slot c 5).val] := by decide +kernel
theorem off13 : ∀ c : Dev nD, k0_off13 c = ![(slot c 6).val] := by decide +kernel
theorem off15 : ∀ c : Dev nD, k0_off15 c = ![(slot c 7).val] := by decide +kernel
theorem off2 : ∀ c : Dev nD, k0_off2 c = ![(slot c 0).val, 0, 0] := by decide +kernel
theorem off4 : ∀ c : Dev nD, k0_off4 c = ![(slot c 1).val, 0, 0] := by decide +kernel
theorem off6 : ∀ c : Dev nD, k0_off6 c = ![(slot c 2).val, 0, 0] := by decide +kernel
theorem off8 : ∀ c : Dev nD, k0_off8 c = ![(slot c 3).val, 0, 0] := by decide +kernel
theorem off10 : ∀ c : Dev nD, k0_off10 c = ![(slot c 4).val, 0, 0] := by decide +kernel
theorem off12 : ∀ c : Dev nD, k0_off12 c = ![(slot c 5).val, 0, 0] := by decide +kernel
theorem off14 : ∀ c : Dev nD, k0_off14 c = ![(slot c 6).val, 0, 0] := by decide +kernel
theorem off16 : ∀ c : Dev nD, k0_off16 c = ![(slot c 7).val, 0, 0] := by decide +kernel
theorem off17 : ∀ c : Dev nD, k0_off17 c = ![(ownP c).val, 0, 0] := by decide +kernel
theorem off18 : ∀ c : Dev nD, k0_off18 c = ![(slot c 8).val - 8] := by decide +kernel
theorem off20 : ∀ c : Dev nD, k0_off20 c = ![(slot c 9).val - 8] := by decide +kernel
theorem off22 : ∀ c : Dev nD, k0_off22 c = ![(slot c 10).val - 8] := by decide +kernel
theorem off24 : ∀ c : Dev nD, k0_off24 c = ![(slot c 11).val - 8] := by decide +kernel
theorem off19 : ∀ c : Dev nD, k0_off19 c = ![(slot c 8).val - 8, 0, 0] := by decide +kernel
theorem off21 : ∀ c : Dev nD, k0_off21 c = ![(slot c 9).val - 8, 0, 0] := by decide +kernel
theorem off23 : ∀ c : Dev nD, k0_off23 c = ![(slot c 10).val - 8, 0, 0] := by decide +kernel
theorem off25 : ∀ c : Dev nD, k0_off25 c = ![(slot c 11).val - 8, 0, 0] := by decide +kernel
theorem off26 : ∀ c : Dev nD, k0_off26 c = ![(ownZ c).val - 8, 0, 0] := by decide +kernel

end Cert.KernelIdeal.Links
-- ==== Proof.KernelIdeal.Protocol.lean ====
/-
# The protocol of the kernel: cells, buffers, contents, schedule

Every device owns one barrier cell and, per link, a send cell and a receive cell. All of them open for one round. The
barrier cell of `c` collects one unit along each link that leads elsewhere, and the unit paid along a link hands over the
landing slot at that link's far end. A send cell returns the share of the source that was in flight; a receive cell
hands over the landing slot, filled with what the far device sent. The links of the plane carry a device's own maximum and
its place (`stC`), the links of the column what the plane agreed on (`st2C`).
-/
module

public import proofs.«01_k».proof.Proof.KernelIdeal.Links
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.KernelIdeal.Links

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of this kernel's cells are named by links. -/
abbrev UB : Type := URounds (GSem nD τ sig) Link
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore. -/
abbrev barS : Sem sig := (SemArray.scalar (sig.barrier 0 rfl) : Sems sig S_).sem
/-- The DMA semaphore a send along link `k` completes on, at the sender; -/
def sendS (k : Link) : DmaSem sig :=
  if h : k.val < 8 then ⟨k.val + 2, show k.val + 2 < 26 by omega⟩ else ⟨k.val + 10, show k.val + 10 < 26 by have := k.isLt; omega⟩
/-- and the one the arrival along link `k` completes on. -/
def recvS (k : Link) : DmaSem sig :=
  if h : k.val < 8 then ⟨k.val + 10, show k.val + 10 < 26 by omega⟩ else ⟨k.val + 14, show k.val + 14 < 26 by have := k.isLt; omega⟩

/-- The cells of one device: the barrier, then the send cells, then the receive cells. -/
abbrev Cix : Type := Option (Link ⊕ Link)
/-- The semaphore of each. -/
def csem : Cix → SemLoc sig
  | none => .reg barS
  | some (.inl k) => .dma (sendS k)
  | some (.inr k) => .dma (recvS k)
/-- Which cell a semaphore is, if any. -/
def role (s : SemLoc sig) : Option Cix := (Finset.univ : Finset Cix).toList.find? (fun i => decide (csem i = s))

theorem csem_injective : Function.Injective csem := by
  have h : ∀ i j : Cix, csem i = csem j → i = j := by decide +kernel
  exact fun i j => h i j

theorem role_csem (i : Cix) : role (csem i) = some i := by
  unfold role
  cases h : (Finset.univ : Finset Cix).toList.find? (fun j => decide (csem j = csem i)) with
  | none =>
    have := (List.find?_eq_none.mp h) i (Finset.mem_toList.mpr (Finset.mem_univ i))
    simp at this
  | some j =>
    have := List.find?_some h
    simp only [decide_eq_true_eq] at this
    rw [csem_injective this]

/-- Cell `i` of device `c`. -/
abbrev kcell (x : Dev nD × Cix) : GSem nD τ sig := ((x.1 : Thread nD τ), csem x.2)
abbrev barC (c : Dev nD) : GSem nD τ sig := ((c : Thread nD τ), .reg barS)
abbrev sendC (c : Dev nD) (k : Link) : GSem nD τ sig := ((c : Thread nD τ), .dma (sendS k))
abbrev recvC (c : Dev nD) (k : Link) : GSem nD τ sig := ((c : Thread nD τ), .dma (recvS k))

theorem kcell_injective : Function.Injective (kcell : Dev nD × Cix → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## The buffers -/

abbrev xM : Memref sig .tc .vmem S512x512 .f32 := Memref.whole cc0_stg0_0
abbrev oM : Memref sig .tc .vmem S2x512 .f32 := Memref.whole cc0_stg1_0
abbrev stM : Memref sig .tc .vmem S2x512 .f32 := Memref.whole cc0_scratch0
abbrev st2M : Memref sig .tc .vmem S2x512 .f32 := Memref.whole cc0_scratch1
abbrev plM : Memref sig .tc .vmem S8x2x512 .f32 := Memref.whole cc0_scratch2
abbrev zcM : Memref sig .tc .vmem S4x2x512 .f32 := Memref.whole cc0_scratch3

/-- The slot of the plane buffer at an offset, as a block of two rows; -/
abbrev plAt (o : Fin 3 → ℕ) (h : ∀ a, o a + S1x2x512.size a ≤ S8x2x512.size a) : Memref sig .tc .vmem S2x512 .f32 :=
  (plM.slice (Rect.unit (s := S8x2x512) o S1x2x512.size h) (fun _ => rfl)).squeeze S2x512 squeezes_S1x2x512_S2x512
/-- and the slot of the column buffer. -/
abbrev zcAt (o : Fin 3 → ℕ) (h : ∀ a, o a + S1x2x512.size a ≤ S4x2x512.size a) : Memref sig .tc .vmem S2x512 .f32 :=
  (zcM.slice (Rect.unit (s := S4x2x512) o S1x2x512.size h) (fun _ => rfl)).squeeze S2x512 squeezes_S1x2x512_S2x512

theorem pl_inb (k : ℕ) (h : k < 8) : ∀ a, (![k, 0, 0] : Fin 3 → ℕ) a + S1x2x512.size a ≤ S8x2x512.size a := by
  intro a; fin_cases a
  · show k + 1 ≤ 8; omega
  · show 0 + 2 ≤ 2; omega
  · show 0 + 512 ≤ 512; omega
theorem zc_inb (k : ℕ) (h : k < 4) : ∀ a, (![k, 0, 0] : Fin 3 → ℕ) a + S1x2x512.size a ≤ S4x2x512.size a := by
  intro a; fin_cases a
  · show k + 1 ≤ 4; omega
  · show 0 + 2 ≤ 2; omega
  · show 0 + 512 ≤ 512; omega

/-- The landing slot of link `k`. -/
def slotM (k : Link) : Memref sig .tc .vmem S2x512 .f32 :=
  if h : k.val < 8 then plAt ![k.val, 0, 0] (pl_inb _ h) else zcAt ![k.val - 8, 0, 0] (zc_inb _ (by have := k.isLt; omega))
/-- What a send along link `k` reads. -/
def srcM (k : Link) : Memref sig .tc .vmem S2x512 .f32 := if k.val < 8 then stM else st2M

theorem plAt_eq {k : Link} (hk : k.val < 8) {o : Fin 3 → ℕ} (ho : o = ![k.val, 0, 0]) (h) : plAt o h = slotM k := by
  subst ho; unfold slotM; rw [dif_pos hk]
theorem zcAt_eq {k : Link} (hk : ¬ k.val < 8) {o : Fin 3 → ℕ} (ho : o = ![k.val - 8, 0, 0]) (h) : zcAt o h = slotM k := by
  subst ho; unfold slotM; rw [dif_neg hk]

/-- The four semaphore arrays, read at a link. -/
theorem psend_eq {k : Link} (hk : k.val < 8) {o : Fin 1 → ℕ} (ho : o = ![k.val]) (h) :
    ((cc0_scratch4.slice (Rect.unit (s := S8) o S1.size h)).squeeze S_ squeezes_S1_S_).sem = sendS k := by
  subst ho; revert k; decide +kernel
theorem precv_eq {k : Link} (hk : k.val < 8) {o : Fin 1 → ℕ} (ho : o = ![k.val]) (h) :
    ((cc0_scratch5.slice (Rect.unit (s := S8) o S1.size h)).squeeze S_ squeezes_S1_S_).sem = recvS k := by
  subst ho; revert k; decide +kernel
theorem zsend_eq {k : Link} (hk : ¬ k.val < 8) {o : Fin 1 → ℕ} (ho : o = ![k.val - 8]) (h) :
    ((cc0_scratch6.slice (Rect.unit (s := S4) o S1.size h)).squeeze S_ squeezes_S1_S_).sem = sendS k := by
  subst ho; revert k; decide +kernel
theorem zrecv_eq {k : Link} (hk : ¬ k.val < 8) {o : Fin 1 → ℕ} (ho : o = ![k.val - 8]) (h) :
    ((cc0_scratch7.slice (Rect.unit (s := S4) o S1.size h)).squeeze S_ squeezes_S1_S_).sem = recvS k := by
  subst ho; revert k; decide +kernel

/-- The credit of one message. -/
abbrev N : ℕ := (stM : Memref sig .tc .vmem S2x512 .f32).view.dmaCredit
theorem N_pos : 0 < N := View.dmaCredit_pos _ (by decide)
theorem slot_credit (k : Link) : (slotM k).view.dmaCredit = N := by
  unfold slotM; split <;> rfl
theorem slot_sc (k : Link) : (slotM k).view.ref.isScScratch = false := by
  unfold slotM; split <;> rfl

/-! ## Contents -/

/-- Two rows, one above the other. -/
def rows (a b : Vec F S1x512 .f32) : Vec F S2x512 .f32 :=
  fun i => if (i 0).val = 0 then a (ix2 (0 : Fin 1) (i 1 : Fin 512)) else b (ix2 (0 : Fin 1) (i 1 : Fin 512))
/-- Row `r` of eight blocks, gathered; -/
def gat8 (Y : Fin 8 → Vec F S2x512 .f32) (r : Fin 2) : Vec F S8x1x512 .f32 := fun i => Y (i 0) (ix2 r (i 2 : Fin 512))
/-- of four. -/
def gat4 (Y : Fin 4 → Vec F S2x512 .f32) (r : Fin 2) : Vec F S4x1x512 .f32 := fun i => Y (i 0) (ix2 r (i 2 : Fin 512))

variable (X : Dev nD → Vec F S512x512 .f32)

/-- Device `c`'s own maximum and its place, from its block; -/
def stC (c : Dev nD) : Vec F S2x512 .f32 := rows (k0_pay3 (X c)) (k0_pay4 (mw c) (X c))
/-- its plane's, -/
def plX (c : Dev nD) (k : Fin 8) : Vec F S2x512 .f32 := stC X (peer c ⟨k.val, by omega⟩)
def st2C (c : Dev nD) : Vec F S2x512 .f32 := rows (k0_pay8 (gat8 (plX X c) 0)) (k0_pay9 (gat8 (plX X c) 0) (gat8 (plX X c) 1))
/-- and the whole mesh's, from its column. -/
def zcX (c : Dev nD) (k : Fin 4) : Vec F S2x512 .f32 := st2C X (peer c ⟨8 + k.val, by omega⟩)
def outC (c : Dev nD) : Vec F S2x512 .f32 := rows (k0_pay12 (gat4 (zcX X c) 0)) (k0_pay13 (gat4 (zcX X c) 0) (gat4 (zcX X c) 1))
/-- What device `c` sends along link `k`. -/
def srcC (c : Dev nD) (k : Link) : Vec F S2x512 .f32 := if k.val < 8 then stC X c else st2C X c

theorem srcC_slot (c : Dev nD) (k : Link) : srcC X c (slot c k) = srcC X c k := by
  unfold srcC; simp only [slot_lt]

/-! ## Resources and payloads -/

/-- The landing slot of link `k` of device `c`, at any contents; -/
def land (c : Dev nD) (k : Link) : sProp 𝕄 :=
  iprop(∃ f : Buf (Elt F) ((slotM k).view.loc (c : Thread nD τ)), ((slotM k).view.loc (c : Thread nD τ)) ↦[(slotM k).view.set]{fullShare} f)
/-- holding what the far device sent. -/
def landed (c : Dev nD) (k : Link) : sProp 𝕄 := owns (c : Thread nD τ) (slotM k) fullShare (srcC X (peer c k) k)
/-- The share of its source that a send along link `k` takes. -/
def srcTok (c : Dev nD) (k : Link) : sProp 𝕄 :=
  owns (c : Thread nD τ) (srcM k) (Transfers.shareTokN fullShare (k.val % 8)) (srcC X c k)

instance land_storable (c : Dev nD) (k : Link) : BI.Storable (upEmb : UEmb _ 𝕄) (land (F := F) c k) := by unfold land; infer_instance
instance landed_storable (c : Dev nD) (k : Link) : BI.Storable (upEmb : UEmb _ 𝕄) (landed X c k) := by unfold landed; infer_instance
instance srcTok_storable (c : Dev nD) (k : Link) : BI.Storable (upEmb : UEmb _ 𝕄) (srcTok X c k) := by unfold srcTok; infer_instance

/-- What duty `d` of cell `i` of device `c` pays. -/
def pay (c : Dev nD) : Cix → Link → sProp 𝕄
  | none, d => land (peer c d) (slot c d)
  | some (.inl k), _ => srcTok X c k
  | some (.inr k), _ => landed X c k
instance pay_storable (c : Dev nD) (i : Cix) (d : Link) : BI.Storable (upEmb : UEmb _ 𝕄) (pay X c i d) := by
  rcases i with _ | k | k <;> unfold pay <;> infer_instance

/-- The duties of cell `i` of device `c`: along every link that leads elsewhere, or the one of such a link. -/
def dut (c : Dev nD) : Cix → Finset Link
  | none => Finset.univ.filter (act c)
  | some (.inl k) => if act c k then {0} else ∅
  | some (.inr k) => if act c k then {0} else ∅
/-- The units each duty pays. -/
def amt : Cix → ℕ
  | none => 1
  | some _ => N

/-- One round per cell. -/
def Rd : Rounds.Schedule (GSem nD τ sig) Link 𝕄 where
  duties g r := if r = 0 ∧ g.1.2 = .tc then (match role g.2 with | some i => dut g.1.1 i | none => ∅) else ∅
  unitless _ := False
  amount g _ _ := match role g.2 with | some i => amt i | none => 1
  payload g _ d := match role g.2 with | some i => pay X g.1.1 i d | none => iprop(emp)
  amount_pos g _ _ _ := by
    rcases role g.2 with _ | _ | k
    · exact Nat.one_pos
    · exact Nat.one_pos
    · exact N_pos

instance Rd_payload_storable (g : GSem nD τ sig) (r : ℕ) (d : Link) :
    BI.Storable (upEmb : UEmb _ 𝕄) ((Rd X).payload g r d) := by
  show BI.Storable upEmb (match role g.2 with | some i => pay X g.1.1 i d | none => iprop(emp))
  split <;> infer_instance

theorem duties_eq (x : Dev nD × Cix) : (Rd X).duties (kcell x) 0 = dut x.1 x.2 := by
  dsimp only [Rd]; rw [if_pos ⟨rfl, rfl⟩, role_csem]
theorem duties_later (g : GSem nD τ sig) : ∀ r, 1 ≤ r → (Rd X).duties g r = ∅ :=
  fun r hr => by dsimp only [Rd]; rw [if_neg fun h => by omega]
theorem amount_eq (x : Dev nD × Cix) (r : ℕ) (d : Link) : (Rd X).amount (kcell x) r d = amt x.2 := by
  dsimp only [Rd]; rw [role_csem]
theorem payload_eq (x : Dev nD × Cix) (r : ℕ) (d : Link) : (Rd X).payload (kcell x) r d = pay X x.1 x.2 d := by
  dsimp only [Rd]; rw [role_csem]
theorem expect_eq (x : Dev nD × Cix) : (Rd X).expect (kcell x) 0 = (dut x.1 x.2).card * amt x.2 := by
  unfold Schedule.expect Schedule.amountOf
  rw [duties_eq, Finset.sum_congr rfl fun d _ => amount_eq X x 0 d, Finset.sum_const, smul_eq_mul]

/-- The same, cell by cell. -/
theorem duties_bar (c : Dev nD) : (Rd X).duties (barC c) 0 = Finset.univ.filter (act c) := duties_eq X (c, none)
theorem duties_send (c : Dev nD) (k : Link) (h : act c k) : (Rd X).duties (sendC c k) 0 = {0} :=
  (duties_eq X (c, some (.inl k))).trans (if_pos h)
theorem duties_recv (c : Dev nD) (k : Link) (h : act c k) : (Rd X).duties (recvC c k) 0 = {0} :=
  (duties_eq X (c, some (.inr k))).trans (if_pos h)
theorem amount_bar (c : Dev nD) (d : Link) : (Rd X).amount (barC c) 0 d = 1 := amount_eq X (c, none) 0 d
theorem amount_send (c : Dev nD) (k d : Link) : (Rd X).amount (sendC c k) 0 d = N := amount_eq X (c, some (.inl k)) 0 d
theorem amount_recv (c : Dev nD) (k d : Link) : (Rd X).amount (recvC c k) 0 d = N := amount_eq X (c, some (.inr k)) 0 d
theorem payload_bar (c : Dev nD) (d : Link) : (Rd X).payload (barC c) 0 d = land (peer c d) (slot c d) := payload_eq X (c, none) 0 d
theorem payload_send (c : Dev nD) (k d : Link) : (Rd X).payload (sendC c k) 0 d = srcTok X c k := payload_eq X (c, some (.inl k)) 0 d
theorem payload_recv (c : Dev nD) (k d : Link) : (Rd X).payload (recvC c k) 0 d = landed X c k := payload_eq X (c, some (.inr k)) 0 d
theorem expect_bar (c : Dev nD) : (Rd X).expect (barC c) 0 = 10 :=
  (expect_eq X (c, none)).trans (by show (Finset.univ.filter (act c)).card * 1 = 10; rw [card_act])

/-! ## What is owed, and the levels -/

/-- The unit `c` owes along link `k` to the far barrier; -/
def sigO (c : Dev nD) (k : Link) : CellTallies nD τ sig Unit := if act c k then tallyAt (barC (peer c k)) () 1 else 0
/-- and the message. -/
def sndO (c : Dev nD) (k : Link) : CellTallies nD τ sig Unit := if act c k then tallyAt (recvC (peer c k) (slot c k)) () N else 0
def sigOs (c : Dev nD) (l : List Link) : CellTallies nD τ sig Unit := (l.map (sigO c)).sum
def sndOs (c : Dev nD) (l : List Link) : CellTallies nD τ sig Unit := (l.map (sndO c)).sum
/-- All links, in order; the plane's; the column's. -/
abbrev pls : List Link := [0, 1, 2, 3, 4, 5, 6, 7]
abbrev zcs : List Link := [8, 9, 10, 11]
abbrev alls : List Link := [0, 1, 2, 3, 4, 5, 6, 7, 8, 9, 10, 11]
/-- What a device owes at launch. -/
def O₀ (c : Dev nD) : CellTallies nD τ sig Unit := sigOs c alls + sndOs c alls

def Lx (g : GSem nD τ sig) : Finset Unit := if g.1.2 = .tc then {()} else ∅
/-- The level of a cell: the barrier below the plane's receive cells, those below the column's; all others at the bottom. -/
def lvR : Option Cix → ℕ
  | some none => 1
  | some (some (.inr k)) => if k.val < 8 then 2 else 3
  | _ => 0
def lv (g : GSem nD τ sig) (_ : Unit) : ℕ := lvR (role g.2)

theorem L_of_ne (g : GSem nD τ sig) (h : g.1.2 ≠ .tc) : Lx g = ∅ := if_neg h
theorem L_tc (c : Dev nD) (sm : SemLoc sig) : Lx ((c : Thread nD τ), sm) = {()} := if_pos rfl
theorem lv_kcell (x : Dev nD × Cix) (u : Unit) : lv (kcell x) u = lvR (some x.2) := by unfold lv; rw [role_csem]

theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

theorem sum_pos {f : Link → CellTallies nD τ sig Unit} {g : GSem nD τ sig} {u : Unit} :
    ∀ {l : List Link}, 0 < (l.map f).sum g u → ∃ k ∈ l, 0 < f k g u
  | [], h => absurd h (Nat.lt_irrefl 0)
  | k :: l, h => by
    rw [List.map_cons, List.sum_cons, Pi.add_apply, Finsupp.add_apply] at h
    rcases Nat.eq_zero_or_pos (f k g u) with h0 | h0
    · rw [h0, Nat.zero_add] at h
      obtain ⟨k', hk', h'⟩ := sum_pos h
      exact ⟨k', List.mem_cons_of_mem _ hk', h'⟩
    · exact ⟨k, List.mem_cons_self, h0⟩

theorem sigOs_pos {c : Dev nD} {l : List Link} {g : GSem nD τ sig} {u : Unit} (h : 0 < sigOs c l g u) : ∃ k, g = kcell (peer c k, none) := by
  obtain ⟨k, -, hk⟩ := sum_pos h
  unfold sigO at hk
  split at hk
  · exact ⟨k, tally_pos hk⟩
  · exact absurd hk (Nat.lt_irrefl 0)
theorem sndOs_pos {c : Dev nD} {l : List Link} {g : GSem nD τ sig} {u : Unit} (h : 0 < sndOs c l g u) :
    ∃ k ∈ l, g = kcell (peer c k, some (.inr (slot c k))) := by
  obtain ⟨k, hl, hk⟩ := sum_pos h
  unfold sndO at hk
  split at hk
  · exact ⟨k, hl, tally_pos hk⟩
  · exact absurd hk (Nat.lt_irrefl 0)

/-- A device may wait at level `n` while all it owes lies above. -/
theorem mayWait_of (c : Dev nD) (sm : SemLoc sig) (n : ℕ) (O : CellTallies nD τ sig Unit) (hs : lvR (role sm) ≤ n)
    (hO : ∀ g u, 0 < O g u → ∃ x : Dev nD × Cix, g = kcell x ∧ n < lvR (some x.2)) :
    (levAts Lx lv : sProp 𝕄) ⊢ MayWait (c : Thread nD τ) sm () O :=
  MayOwe.of_cut (L := Lx) (lev := lv) n
    (fun p hp => by rw [Finset.mem_singleton.mp hp, L_tc]; exact Finset.mem_singleton_self _)
    (fun g u hg => by obtain ⟨x, rfl, -⟩ := hO g u hg; rw [L_tc]; exact Finset.mem_singleton_self _)
    (fun p hp => by rw [Finset.mem_singleton.mp hp]; exact hs)
    (fun g u hg => by obtain ⟨x, rfl, h⟩ := hO g u hg; rw [lv_kcell]; exact h)

/-- Messages are owed above the barrier, -/
theorem snd_above_bar {c : Dev nD} {l : List Link} {g : GSem nD τ sig} {u : Unit} (h : 0 < sndOs c l g u) :
    ∃ x : Dev nD × Cix, g = kcell x ∧ 1 < lvR (some x.2) := by
  obtain ⟨k, -, hk⟩ := sndOs_pos h
  refine ⟨_, hk, ?_⟩
  dsimp only [lvR]; split <;> decide
/-- the column's above the plane's. -/
theorem snd_above_plane {c : Dev nD} {l : List Link} (hl : ∀ k ∈ l, ¬ k.val < 8) {g : GSem nD τ sig} {u : Unit} (h : 0 < sndOs c l g u) :
    ∃ x : Dev nD × Cix, g = kcell x ∧ 2 < lvR (some x.2) := by
  obtain ⟨k, hk, hg⟩ := sndOs_pos h
  refine ⟨_, hg, ?_⟩
  dsimp only [lvR]; rw [if_neg (fun h' => hl k hk ((slot_lt c k).mp h'))]; decide
theorem O₀_above {c : Dev nD} {g : GSem nD τ sig} {u : Unit} (h : 0 < O₀ c g u) :
    ∃ x : Dev nD × Cix, g = kcell x ∧ 0 < lvR (some x.2) := by
  unfold O₀ at h
  rw [Pi.add_apply, Finsupp.add_apply] at h
  rcases Nat.eq_zero_or_pos (sigOs c alls g u) with h0 | h0
  · rw [h0, Nat.zero_add] at h
    obtain ⟨x, hx, hl⟩ := snd_above_bar h
    exact ⟨x, hx, by omega⟩
  · obtain ⟨k, hk⟩ := sigOs_pos h0
    exact ⟨_, hk, Nat.one_pos⟩

end Cert.KernelIdeal.Links
-- ==== Proof.KernelIdeal.Steps.lean ====
/-
# One guarded statement at a time

The kernel's text is a row of guarded statements, each acting along one link and skipped on the idle one: signal, send,
wait for an arrival, wait for a send. This module states the three rules they run by, once for every link. Each moves the
head of a list of links still to do.
-/
module

public import proofs.«01_k».proof.Proof.KernelIdeal.Protocol

@[expose] public section

noncomputable section

namespace Cert.KernelIdeal.Links

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family of resources along a list of links -/

/-- `Φ k` for each `k` of a list. -/
def fam (Φ : Link → sProp 𝕄) : List Link → sProp 𝕄
  | [] => iprop(emp)
  | k :: l => iprop(Φ k ∗ fam Φ l)

theorem fam_cons (Φ : Link → sProp 𝕄) (k : Link) (l : List Link) : fam Φ (k :: l) = iprop(Φ k ∗ fam Φ l) := rfl

/-- The same as a conjunction over the list's set, if no link comes twice. -/
theorem fam_eq (Φ : Link → sProp 𝕄) : ∀ l : List Link, l.Nodup → fam Φ l = bigSep l.toFinset Φ
  | [], _ => (bigSep_empty).symm
  | k :: l, h => by
    rw [List.toFinset_cons, bigSep_insert (fun hk => (List.nodup_cons.mp h).1 (List.mem_toFinset.mp hk)),
      fam_cons, fam_eq Φ l (List.nodup_cons.mp h).2]
    rfl
theorem fam_perm (Φ : Link → sProp 𝕄) {l l' : List Link} (h : l.Perm l') (hl : l.Nodup) : fam Φ l = fam Φ l' := by
  rw [fam_eq Φ l hl, fam_eq Φ l' (h.nodup_iff.mp hl), List.toFinset_eq_of_perm _ _ h]
theorem fam_univ (Φ : Link → sProp 𝕄) : fam Φ alls = bigSep Finset.univ Φ := by
  rw [fam_eq Φ alls (by decide), show alls.toFinset = Finset.univ by decide]
theorem fam_sep (Φ Ψ : Link → sProp 𝕄) (l : List Link) (h : l.Nodup) :
    fam (fun k => iprop(Φ k ∗ Ψ k)) l = iprop(fam Φ l ∗ fam Ψ l) := by
  rw [fam_eq _ l h, fam_eq _ l h, fam_eq _ l h, bigSep_sep']
theorem fam_append (Φ : Link → sProp 𝕄) (l l' : List Link) (h : (l ++ l').Nodup) :
    fam Φ (l ++ l') = iprop(fam Φ l ∗ fam Φ l') := by
  obtain ⟨h1, h2, h3⟩ := List.nodup_append.mp h
  rw [fam_eq Φ _ h, fam_eq Φ l h1, fam_eq Φ l' h2, List.toFinset_append]
  exact bigSep_union (Finset.disjoint_left.mpr fun a ha hb => h3 a (List.mem_toFinset.mp ha) a (List.mem_toFinset.mp hb) rfl)
theorem fam_mono {Φ Ψ : Link → sProp 𝕄} : ∀ {l : List Link}, (∀ k ∈ l, Φ k ⊢ Ψ k) → fam Φ l ⊢ fam Ψ l
  | [], _ => BI.Entails.refl _
  | k :: l, h => BI.sep_mono (h k List.mem_cons_self) (fam_mono fun j hj => h j (List.mem_cons_of_mem _ hj))
theorem fam_congr {Φ Ψ : Link → sProp 𝕄} {l : List Link} (h : ∀ k ∈ l, Φ k = Ψ k) : fam Φ l = fam Ψ l := by
  induction l with
  | nil => rfl
  | cons k l ih => rw [fam_cons, fam_cons, h k List.mem_cons_self, ih fun j hj => h j (List.mem_cons_of_mem _ hj)]

/-- A resource a device has along the links that lead elsewhere only. -/
def onA (c : Dev nD) (P : Link → sProp 𝕄) (k : Link) : sProp 𝕄 := if act c k then P k else iprop(emp)

/-- Along a list that meets the device's own place `o` once: the resource at `o` completes the family. -/
theorem fam_own (c : Dev nD) (P : Link → sProp 𝕄) (o : Link) : ∀ l : List Link, l.Nodup → (∀ k ∈ l, act c k ↔ k ≠ o) →
    (o ∉ l → fam (onA c P) l = fam P l) ∧ (o ∈ l → iprop(fam (onA c P) l ∗ P o) = fam P l)
  | [], _, _ => ⟨fun _ => rfl, fun h => absurd h List.not_mem_nil⟩
  | k :: l, hn, ha => by
    have ih := fam_own c P o l (List.nodup_cons.mp hn).2 fun j hj => ha j (List.mem_cons_of_mem _ hj)
    have hk := ha k List.mem_cons_self
    refine ⟨fun ho => ?_, fun ho => ?_⟩
    · rw [fam_cons, fam_cons, ih.1 fun h => ho (List.mem_cons_of_mem _ h)]
      unfold onA; rw [if_pos (hk.mpr fun h => ho (h ▸ List.mem_cons_self))]
    · by_cases h : k = o
      · subst h
        rw [fam_cons, fam_cons, ih.1 (List.nodup_cons.mp hn).1]
        unfold onA; rw [if_neg fun h' => hk.mp h' rfl]
        rw [show (iprop(emp ∗ fam P l) : sProp 𝕄) = fam P l from equiv_iff.mp BI.emp_sep]
        exact equiv_iff.mp ⟨BI.sep_comm, BI.sep_comm⟩
      · rw [fam_cons, fam_cons, ← ih.2 ((List.mem_cons.mp ho).resolve_left fun h' => h h'.symm)]
        unfold onA; rw [if_pos (hk.mpr h)]
        exact equiv_iff.mp ⟨BI.sep_assoc, BI.sep_assoc'⟩

/-! ## What every step needs -/

variable (X : Dev nD → Vec F S512x512 .f32) (K : Dev nD × Cix → ℕ)

/-- Every cell's invariant, and that every cell has reached round 0. -/
def records : sProp 𝕄 :=
  iprop(bigSep Finset.univ (fun x : Dev nD × Cix => cellInv ER (Rd X) (K x) (kcell x))
    ∗ bigSep Finset.univ (fun x : Dev nD × Cix => reached ER (kcell x) 0))
instance records_persistent : BI.Persistent (records X K) := by unfold records; infer_instance
/-- The cells' levels. -/
@[irreducible] def lvls : sProp 𝕄 := levAts Lx lv
theorem lvls_eq : (lvls : sProp 𝕄) = levAts Lx lv := by unfold lvls; rfl
instance lvls_persistent : BI.Persistent (lvls : sProp 𝕄) := by unfold lvls; infer_instance
/-- The invariants and the levels. -/
def ctx : sProp 𝕄 := iprop(records X K ∗ lvls)
instance ctx_persistent : BI.Persistent (ctx X K) := by unfold ctx; infer_instance

/-- One of a family that is held. -/
theorem one_of {I : Type} [Fintype I] [DecidableEq I] (Φ : I → sProp 𝕄) (x : I) : bigSep Finset.univ Φ ⊢ Φ x :=
  bigSep_elim (Finset.mem_univ x)

theorem may_of (c : Dev nD) (sm : SemLoc sig) (n : ℕ) (O : CellTallies nD τ sig Unit) (hs : lvR (role sm) ≤ n)
    (hO : ∀ g u, 0 < O g u → ∃ x : Dev nD × Cix, g = kcell x ∧ n < lvR (some x.2)) :
    (lvls : sProp 𝕄) ⊢ MayWait (c : Thread nD τ) sm () O := by
  rw [lvls_eq]; exact mayWait_of c sm n O hs hO

theorem ctx_inv (x : Dev nD × Cix) : ctx X K ⊢ cellInv ER (Rd X) (K x) (kcell x) := by
  unfold ctx records
  iintro ⟨⟨#H, -⟩, -⟩
  iapply (one_of (fun x : Dev nD × Cix => cellInv ER (Rd X) (K x) (kcell x)) x)
  iexact H
theorem ctx_reached (x : Dev nD × Cix) : ctx X K ⊢ reached ER (kcell x) 0 := by
  unfold ctx records
  iintro ⟨⟨-, #H⟩, -⟩
  iapply (one_of (fun x : Dev nD × Cix => (reached ER (kcell x) 0 : sProp 𝕄)) x)
  iexact H
theorem ctx_lev : ctx X K ⊢ lvls := by
  unfold ctx
  iintro ⟨-, #H⟩; iexact H

/-- What a device owes, whatever it has waited for. -/
def owesE (c : Dev nD) (O : CellTallies nD τ sig Unit) : sProp 𝕄 := iprop(∃ W, owes (c : Thread nD τ) O W)

/-- A device's weakest precondition. -/
abbrev wpc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## Signal -/

/-- What the signal along link `k` spends: its duty at the far barrier, and the landing slot it hands over. -/
def sigRes (c : Dev nD) : Link → sProp 𝕄 := onA c fun k => iprop(dutyTok ER (barC (peer c k)) 0 (slot c k) ∗ land c k)
/-- Before the signals along `l`. -/
def sigSt (c : Dev nD) (l : List Link) : sProp 𝕄 := iprop(owesE c (sigOs c l + sndOs c alls) ∗ fam (sigRes c) l)

variable {α : Type} {Kp : Prog (TpuEff nD τ sig (Elt F) Λ₀ .tc) α}

theorem sig_core {Q : α → sProp 𝕄} (c n : Dev nD) (k : Link) (hn : n = peer c k) (ha : act c k) (O : CellTallies nD τ sig Unit) :
    iprop(ctx X K ∗ owesE c (tallyAt (barC (peer c k)) () 1 + O) ∗ dutyTok ER (barC (peer c k)) 0 (slot c k) ∗ land c k)
      ⊢ iprop((owesE c O -∗ wpc c Kp Q) -∗ wpc c (semSignalWord n barS 1#32 >>= fun _ => Kp) Q) := by
  subst hn
  simp only [semSignalWord, Prog.bind_op, Prog.bind_ret]
  unfold owesE
  iintro ⟨#Hc, ⟨%W, HO⟩, Ht, Hl⟩ Hk
  iapply (Rounds.wp_signal Variants.none ER (Rd X) (c : Thread nD τ) none (dst := (peer c k : Thread nD τ)) (κ := K (peer c k, none))
      (d := slot c k) (by rw [duties_bar]; exact Finset.mem_filter.mpr ⟨Finset.mem_univ _, (act_flip c k).mpr ha⟩)
      ((amount_bar X (peer c k) (slot c k)).trans (by decide)) () O (add_comm _ _)) $$ [HO Ht Hl]
  · isplitr; · iapply (ctx_inv X K (peer c k, none)); iexact Hc
    isplitl [HO]; · iexact HO
    isplitl [Ht]; · iexact Ht
    isplitl [Hl]
    · rw [payload_bar, peer_peer, slot_slot]; iexact Hl
    iapply (ctx_reached X K (peer c k, none)); iexact Hc
  iintro HO
  iapply Hk
  iexists W; iexact HO

/-- A guarded signal. -/
theorem sig_step {Q : α → sProp 𝕄} {R : sProp 𝕄} (c : Dev nD) (k : Link) {l : List Link} {p : Prop} [Decidable p] (hp : p ↔ act c k) {d : p → Dev nD}
    (hd : ∀ h, (d h).val = (peer c k).val) (H : iprop(ctx X K ∗ sigSt c l ∗ R) ⊢ wpc c Kp Q) :
    iprop(ctx X K ∗ sigSt c (k :: l) ∗ R)
      ⊢ wpc c (if h : p then semSignalWord (d h) barS 1#32 >>= fun _ => Kp else Kp) Q := by
  unfold sigSt sigRes onA sigOs
  rw [fam_cons, List.map_cons, List.sum_cons]
  unfold sigO
  by_cases h : p
  · rw [dif_pos h]
    simp only [if_pos (hp.mp h), add_assoc]
    iintro ⟨#Hc, ⟨HO, ⟨Ht, Hl⟩, Hf⟩, HR⟩
    iapply (sig_core X K c (d h) k (Fin.ext (hd h)) (hp.mp h) _) $$ [HO Ht Hl]
    · isplitr; · iexact Hc
      isplitl [HO]; · iexact HO
      isplitl [Ht] <;> iassumption
    iintro HO
    iapply H
    isplitr; · iexact Hc
    isplitl [HO Hf]
    · unfold sigSt sigRes onA sigOs sigO; isplitl [HO] <;> iassumption
    iexact HR
  · rw [dif_neg h]
    simp only [if_neg (fun h' => h (hp.mpr h')), zero_add]
    iintro ⟨#Hc, ⟨HO, -, Hf⟩, HR⟩
    iapply H
    isplitr; · iexact Hc
    isplitl [HO Hf]
    · unfold sigSt sigRes onA sigOs sigO; isplitl [HO] <;> iassumption
    iexact HR

/-! ## Send -/

/-- What the send along link `k` spends beside its source: the far landing slot, and its duties at both ends. -/
def sndRes (c : Dev nD) : Link → sProp 𝕄 := onA c fun k =>
  iprop(land (peer c k) (slot c k) ∗ dutyTok ER (sendC c k) 0 0 ∗ dutyTok ER (recvC (peer c k) (slot c k)) 0 0)
/-- A source share in flight: the send's credit; on the idle link the share itself. -/
def flight (c : Dev nD) (k : Link) : sProp 𝕄 := if act c k then cred (tallyAt (sendC c k) () N) else srcTok X c k
/-- Before the sends along `l`, those along `d` done and those along `r` to come later. -/
def sndSt (c : Dev nD) (l r d : List Link) : sProp 𝕄 :=
  iprop(owesE c (sndOs c (l ++ r)) ∗ fam (sndRes c) l ∗ fam (srcTok X c) l ∗ fam (flight X c) d)

theorem snd_core {Q : α → sProp 𝕄} (c n : Dev nD) (k : Link) (hn : n = peer c k) (ha : act c k) (O : CellTallies nD τ sig Unit)
    {src : Memref sig .tc .vmem S2x512 .f32} (hs : src = srcM k)
    {dst : Memref sig (Dev.tc n : Thread nD τ).2.kind .vmem S2x512 .f32} (hdm : dst = slotM (slot c k)) {sS rS : DmaSem sig} (hsS : sS = sendS k) (hrS : rS = recvS (slot c k))
    {hsc : dst.view.ref.isScScratch = false} {hsrc : src.view.WordExact} {hdst : dst.view.WordExact}
    {hsem : DmaTarget.Typed .vmem (.dma rS) (.remote (Dev.tc n : Thread nD τ) dst (.dma sS) hsc)} :
    iprop(ctx X K ∗ owesE c (tallyAt (recvC (peer c k) (slot c k)) () N + O) ∗ srcTok X c k
        ∗ land (peer c k) (slot c k) ∗ dutyTok ER (sendC c k) 0 0 ∗ dutyTok ER (recvC (peer c k) (slot c k)) 0 0)
      ⊢ iprop(((owesE c O ∗ cred (tallyAt (sendC c k) () N)) -∗ wpc c Kp Q)
          -∗ wpc c (Prog.lift (.enqueueDma src (.remote (Dev.tc n : Thread nD τ) dst (.dma sS) hsc) (.dma rS) hsrc hdst hsem) >>= fun _ => Kp) Q) := by
  subst hn hs hdm hsS hrS
  simp only [Prog.lift, Prog.bind_op, Prog.bind_ret]
  unfold owesE srcTok land owns
  iintro ⟨#Hc, ⟨%W, HO⟩, ⟨%fs, %hfs, Hs⟩, ⟨%fd, Hl⟩, Ht1, Ht2⟩ Hk
  iapply (Rounds.wp_send_pointsTo Variants.none ER (Rd X) (c : Thread nD τ) none
    (κ₁ := K (c, some (.inl k))) (κ₂ := K (peer c k, some (.inr (slot c k))))
    (r₁ := 0) (r₂ := 0) (d₁ := 0) (d₂ := 0) (fs := fs) (fd := fd) (q := Transfers.shareTokN fullShare (k.val % 8))
    (by rw [duties_send X c k ha]; exact Finset.mem_singleton_self _)
    (by rw [duties_recv X _ _ ((act_flip c k).mpr ha)]; exact Finset.mem_singleton_self _)
    () () N ((slot_credit (slot c k)).symm ▸ rfl) (amount_send X c k 0) (amount_recv X (peer c k) (slot c k) 0) O (add_comm _ _) (W := W)
    (by
      rw [payload_send]; unfold srcTok owns
      iintro H; iexists fs; isplitr; · ipureintro; exact hfs
      iexact H)
    (by
      rw [payload_recv]; unfold landed owns
      iintro H; iexists ((slotM (slot c k)).view.write (Elt F) fd ((srcM k).view.read (Elt F) fs) Finset.univ); isplitr
      · ipureintro; rw [View.read_write_univ, hfs]; rw [peer_peer, srcC_slot]
      iexact H)) $$ [HO Hs Hl Ht1 Ht2]
  · isplitr; · iapply (ctx_inv X K (c, some (.inl k))); iexact Hc
    isplitr; · iapply (ctx_inv X K (peer c k, some (.inr (slot c k)))); iexact Hc
    isplitl [Hs]; · iexact Hs
    isplitl [Hl]; · iexact Hl
    isplitl [HO]; · iexact HO
    isplitl [Ht1]; · iexact Ht1
    isplitr; · iapply (ctx_reached X K (c, some (.inl k))); iexact Hc
    isplitl [Ht2]; · iexact Ht2
    iapply (ctx_reached X K (peer c k, some (.inr (slot c k)))); iexact Hc
  iintro ⟨Hcr, HO⟩
  iapply Hk
  isplitl [HO]
  · iexists W; iexact HO
  · iexact Hcr

/-- A guarded send. -/
theorem snd_step {Q : α → sProp 𝕄} {R : sProp 𝕄} (c : Dev nD) (k : Link) {l r dn : List Link} {p : Prop} [Decidable p] (hp : p ↔ act c k) {d : p → Dev nD}
    (hd : ∀ h, (d h).val = (peer c k).val) {src : Memref sig .tc .vmem S2x512 .f32} (hs : src = srcM k)
    {dst : p → Memref sig .tc .vmem S2x512 .f32} (hdm : ∀ h, dst h = slotM (slot c k)) {sS rS : p → DmaSem sig}
    (hsS : ∀ h, sS h = sendS k) (hrS : ∀ h, rS h = recvS (slot c k))
    {hsc : ∀ h, (dst h).view.ref.isScScratch = false} {hsrc : src.view.WordExact} {hdst : ∀ h, (dst h).view.WordExact}
    {hsem : ∀ h, DmaTarget.Typed .vmem (.dma (rS h)) (.remote (Dev.tc (d h) : Thread nD τ) (dst h) (.dma (sS h)) (hsc h))}
    (H : iprop(ctx X K ∗ sndSt X c l r (k :: dn) ∗ R) ⊢ wpc c Kp Q) :
    iprop(ctx X K ∗ sndSt X c (k :: l) r dn ∗ R)
      ⊢ wpc c (if h : p then
          Prog.lift (.enqueueDma src (.remote (Dev.tc (d h) : Thread nD τ) (dst h) (.dma (sS h)) (hsc h)) (.dma (rS h)) hsrc (hdst h) (hsem h)) >>= fun _ => Kp
        else Kp) Q := by
  have H' : iprop(ctx X K ∗ (owesE c (sndOs c (l ++ r)) ∗ fam (sndRes c) l ∗ fam (srcTok X c) l ∗ flight X c k ∗ fam (flight X c) dn) ∗ R)
      ⊢ wpc c Kp Q := H
  have hO : sndOs c (k :: l ++ r) = sndO c k + sndOs c (l ++ r) := rfl
  unfold sndSt
  rw [fam_cons, fam_cons, hO]
  by_cases h : p
  · have e2 : sndO c k = tallyAt (recvC (peer c k) (slot c k)) () N := if_pos (hp.mp h)
    rw [dif_pos h, e2]
    iintro ⟨#Hc, ⟨HO, ⟨Hr, Hf⟩, ⟨Hs, Hss⟩, Hd⟩, HR⟩
    have e1 : (sndRes c k : sProp 𝕄) = iprop(land (peer c k) (slot c k) ∗ dutyTok ER (sendC c k) 0 0 ∗ dutyTok ER (recvC (peer c k) (slot c k)) 0 0) := by
      unfold sndRes onA; exact if_pos (hp.mp h)
    have e3 : flight X c k = cred (tallyAt (sendC c k) () N) := if_pos (hp.mp h)
    ihave Hr' := (Entails.of_eq e1) $$ Hr
    icases Hr' with ⟨Hl, Ht1, Ht2⟩
    iapply (snd_core X K c (d h) k (Fin.ext (hd h)) (hp.mp h) (sndOs c (l ++ r)) hs (hdm h) (hsS h) (hrS h)) $$ [HO Hs Hl Ht1 Ht2]
    · isplitr; · iexact Hc
      isplitl [HO]; · iexact HO
      isplitl [Hs]; · iexact Hs
      isplitl [Hl]; · iexact Hl
      isplitl [Ht1] <;> iassumption
    iintro ⟨HO, Hcr⟩
    iapply H'
    isplitr; · iexact Hc
    isplitr [HR]
    · isplitl [HO]; · iexact HO
      isplitl [Hf]; · iexact Hf
      isplitl [Hss]; · iexact Hss
      isplitl [Hcr]; · iapply (Entails.of_eq e3.symm); iexact Hcr
      iexact Hd
    iexact HR
  · have e2 : sndO c k = 0 := if_neg fun h' => h (hp.mpr h')
    have e3 : flight X c k = srcTok X c k := if_neg fun h' => h (hp.mpr h')
    rw [dif_neg h, e2, zero_add]
    iintro ⟨#Hc, ⟨HO, ⟨-, Hf⟩, ⟨Hs, Hss⟩, Hd⟩, HR⟩
    iapply H'
    isplitr; · iexact Hc
    isplitr [HR]
    · isplitl [HO]; · iexact HO
      isplitl [Hf]; · iexact Hf
      isplitl [Hss]; · iexact Hss
      isplitl [Hs]; · iapply (Entails.of_eq e3.symm); iexact Hs
      iexact Hd
    iexact HR

/-! ## Wait -/

/-- Before the wait on the cell `i` of link `k`: the position, and the credit; on the idle link whatever else is kept. -/
def wt (c : Dev nD) (i : Link → Cix) (E : Link → sProp 𝕄) (k : Link) : sProp 𝕄 :=
  iprop(atPos ER (kcell (c, i k)) 0 ∅ 0 ∗ if act c k then cred (tallyAt (kcell (c, i k)) () N) else E k)
/-- After it: the counter at zero, and what the cell paid. -/
def dn (c : Dev nD) (i : Link → Cix) (E : Link → sProp 𝕄) (k : Link) : sProp 𝕄 :=
  iprop(semVal (kcell (c, i k)) 0 ∗ if act c k then pay X c (i k) 0 else E k)
/-- Before the waits along `l`, those along `d` done, the sends along `r` still to come. -/
def wtSt (c : Dev nD) (i : Link → Cix) (E : Link → sProp 𝕄) (l d r : List Link) : sProp 𝕄 :=
  iprop(owesE c (sndOs c r) ∗ fam (wt c i E) l ∗ fam (dn X c i E) d)

/-- Closing a cell that has run its round. -/
theorem close_core (x : Dev nD × Cix) (r : ℕ) (hr : ∀ r', r ≤ r' → (Rd X).duties (kcell x) r' = ∅) :
    iprop(ctx X K ∗ atPos ER (kcell x) r ∅ 0) ⊢ iprop(|={Set.univ}=> semVal (kcell x) 0) := by
  iintro ⟨#Hc, Hat⟩
  iapply (Rounds.cell_close ER (Rd X) (Set.mem_univ (K x)) (fun h => h) (R := r) hr)
  isplitr
  · iapply (ctx_inv X K x); iexact Hc
  · iexact Hat

theorem wt_core {Q : α → sProp 𝕄} (c : Dev nD) (i : Cix) (q : DmaSem sig) (hq : csem i = .dma q) (hd : dut c i = {0}) (hm : amt i = N)
    (O : CellTallies nD τ sig Unit) (hO : ∀ g u, 0 < O g u → ∃ x : Dev nD × Cix, g = kcell x ∧ lvR (some i) < lvR (some x.2))
    {src dst : Memref sig .tc .vmem S2x512 .f32} (hN : dst.view.dmaCredit = N) {hsrc : src.view.WordExact} {hdst : dst.view.WordExact} :
    iprop(ctx X K ∗ owesE c O ∗ atPos ER (kcell (c, i)) 0 ∅ 0 ∗ cred (tallyAt (kcell (c, i)) () N))
      ⊢ iprop(((owesE c O ∗ semVal (kcell (c, i)) 0 ∗ pay X c i 0) -∗ wpc c Kp Q)
          -∗ wpc c (Prog.lift (.waitDma2 q src dst hsrc hdst) >>= fun _ => Kp) Q) := by
  simp only [Prog.lift, Prog.bind_op, Prog.bind_ret]
  have hx : kcell (c, i) = ((c : Thread nD τ), SemLoc.dma q) := Prod.ext rfl hq
  have hcl := close_core X K (c, i) (0 + 1) (duties_later X _)
  have hinv := ctx_inv X K (c, i)
  have hex : (Rd X).expect ((c : Thread nD τ), SemLoc.dma q) 0 = N := by
    rw [← hx, expect_eq, hd, hm, Finset.card_singleton, Nat.one_mul]
  have hpay : bigSep ((Rd X).duties ((c : Thread nD τ), SemLoc.dma q) 0 \ ∅) (fun d => (Rd X).payload ((c : Thread nD τ), SemLoc.dma q) 0 d) = pay X c i 0 := by
    rw [← hx, Finset.sdiff_empty, duties_eq, hd, bigSep_singleton, payload_eq]
  have hmw : ctx X K ⊢ MayWait (c : Thread nD τ) (.dma q) () O := (ctx_lev X K).trans (may_of (F := F) c (.dma q) (lvR (some i)) O (by rw [← hq, role_csem]) hO)
  rw [hx] at hcl hinv ⊢
  unfold owesE
  iintro ⟨#Hc, ⟨%W, HO⟩, Hat, Hcr⟩ Hk
  iapply (Rounds.wp_wait_rest_token Variants.none ER (Rd X) (c : Thread nD τ) none (κ := K (c, i))
      (wpE_waitDma2_eq Variants.none (c : Thread nD τ) none Set.univ) (Set.mem_univ _) () (O := O) (W := W) (R := 0) (m := 0) (T := ∅)
      (((Nat.zero_add _).trans hN).trans hex.symm)) $$ [Hcr HO Hat]
  · isplitr; · iapply hinv; iexact Hc
    isplitl [Hcr]; · rw [hN]; iexact Hcr
    isplitl [HO]; · iexact HO
    isplitr; · iapply hmw; iexact Hc
    iexact Hat
  iintro ⟨HO, Hat, -, Hp⟩
  imod hcl $$ [Hat] with Hz
  · isplitr; · iexact Hc
    iexact Hat
  ihave Hp' := (Entails.of_eq hpay) $$ Hp
  iapply Hk
  isplitl [HO]; · iexists _; iexact HO
  isplitl [Hz]; · iexact Hz
  iexact Hp'

/-- A guarded wait. -/
theorem wt_step {Q : α → sProp 𝕄} {R : sProp 𝕄} (c : Dev nD) (k : Link) (i : Link → Cix) (E : Link → sProp 𝕄) {l d r : List Link} {p : Prop} [Decidable p] (hp : p ↔ act c k)
    {q : p → DmaSem sig} (hq : ∀ h, csem (i k) = .dma (q h)) (hd : dut c (i k) = if act c k then {0} else ∅) (hm : amt (i k) = N)
    (hO : ∀ g u, 0 < sndOs c r g u → ∃ x : Dev nD × Cix, g = kcell x ∧ lvR (some (i k)) < lvR (some x.2))
    {src dst : p → Memref sig .tc .vmem S2x512 .f32} (hN : ∀ h, (dst h).view.dmaCredit = N)
    {hsrc : ∀ h, (src h).view.WordExact} {hdst : ∀ h, (dst h).view.WordExact}
    (H : iprop(ctx X K ∗ wtSt X c i E l (k :: d) r ∗ R) ⊢ wpc c Kp Q) :
    iprop(ctx X K ∗ wtSt X c i E (k :: l) d r ∗ R)
      ⊢ wpc c (if h : p then Prog.lift (.waitDma2 (q h) (src h) (dst h) (hsrc h) (hdst h)) >>= fun _ => Kp else Kp) Q := by
  have H' : iprop(ctx X K ∗ (owesE c (sndOs c r) ∗ fam (wt c i E) l ∗ dn X c i E k ∗ fam (dn X c i E) d) ∗ R) ⊢ wpc c Kp Q := H
  unfold wtSt
  rw [fam_cons]
  by_cases h : p
  · rw [dif_pos h]
    have e1 : wt c i E k = iprop(atPos ER (kcell (c, i k)) 0 ∅ 0 ∗ cred (tallyAt (kcell (c, i k)) () N)) := by
      unfold wt; rw [if_pos (hp.mp h)]
    have e2 : dn X c i E k = iprop(semVal (kcell (c, i k)) 0 ∗ pay X c (i k) 0) := by
      unfold dn; rw [if_pos (hp.mp h)]
    rw [e1]
    iintro ⟨#Hc, ⟨HO, ⟨⟨Hat, Hcr⟩, Hf⟩, Hd⟩, HR⟩
    iapply (wt_core X K c (i k) (q h) (hq h) (by rw [hd, if_pos (hp.mp h)]) hm (sndOs c r) hO (hN h)) $$ [HO Hat Hcr]
    · isplitr; · iexact Hc
      isplitl [HO]; · iexact HO
      isplitl [Hat] <;> iassumption
    iintro ⟨HO, Hz⟩
    iapply H'
    isplitr; · iexact Hc
    isplitr [HR]
    · isplitl [HO]; · iexact HO
      isplitl [Hf]; · iexact Hf
      isplitl [Hz]; · iapply (Entails.of_eq e2.symm); iexact Hz
      iexact Hd
    iexact HR
  · rw [dif_neg h]
    have e1 : wt c i E k = iprop(atPos ER (kcell (c, i k)) 0 ∅ 0 ∗ E k) := by
      unfold wt; rw [if_neg fun h' => h (hp.mpr h')]
    have e2 : dn X c i E k = iprop(semVal (kcell (c, i k)) 0 ∗ E k) := by
      unfold dn; rw [if_neg fun h' => h (hp.mpr h')]
    have hcl := close_core X K (c, i k) 0 (fun r' _ => by
      rcases Nat.eq_zero_or_pos r' with rfl | hr
      · rw [duties_eq]; exact hd.trans (if_neg fun h' => h (hp.mpr h'))
      · exact duties_later X _ r' hr)
    rw [e1]
    iintro ⟨#Hc, ⟨HO, ⟨⟨Hat, HE⟩, Hf⟩, Hd⟩, HR⟩
    imod hcl $$ [Hat] with Hz
    · isplitr; · iexact Hc
      iexact Hat
    iapply H'
    isplitr; · iexact Hc
    isplitr [HR]
    · isplitl [HO]; · iexact HO
      isplitl [Hf]; · iexact Hf
      isplitl [Hz HE]; · iapply (Entails.of_eq e2.symm); isplitl [Hz] <;> iassumption
      iexact Hd
    iexact HR

/-- The wait for the ten units at a device's barrier: the far landing slots. -/
theorem bar_step {Q : α → sProp 𝕄} (c : Dev nD) :
    iprop(ctx X K ∗ owesE c (sndOs c alls) ∗ atPos ER (barC c) 0 ∅ 0 ∗ cred (tallyAt (barC c) () 10))
      ⊢ iprop(((owesE c (sndOs c alls) ∗ semVal (barC c) 0 ∗ fam (onA c fun k => land (peer c k) (slot c k)) alls) -∗ wpc c Kp Q)
          -∗ wpc c (semWaitWord barS 10#32 >>= fun _ => Kp) Q) := by
  simp only [semWaitWord, Prog.bind_op, Prog.bind_ret]
  have hpay : bigSep ((Rd X).duties (barC c) 0 \ ∅) (fun d => (Rd X).payload (barC c) 0 d) = fam (onA c fun k => land (peer c k) (slot c k)) alls := by
    rw [Finset.sdiff_empty, duties_bar, fam_univ]
    unfold onA
    rw [bigSep_filter]
    exact bigSep_congr fun d _ => by rw [payload_bar]; rfl
  have hmw : ctx X K ⊢ MayWait (c : Thread nD τ) (.reg barS) () (sndOs c alls) := (ctx_lev X K).trans (may_of (F := F) c (.reg barS) 1 (sndOs c alls)
    (by rw [show role (SemLoc.reg barS) = some none from role_csem none]; exact Nat.le_refl 1) fun g u h => snd_above_bar h)
  unfold owesE
  iintro ⟨#Hc, ⟨%W, HO⟩, Hat, Hcr⟩ Hk
  iapply (Rounds.wp_wait_rest_token Variants.none ER (Rd X) (c : Thread nD τ) none (κ := K (c, none))
      (wpE_semWait_eq Variants.none (c : Thread nD τ) none Set.univ) (Set.mem_univ _) () (O := sndOs c alls) (W := W) (R := 0) (m := 0) (T := ∅)
      (by rw [expect_bar]; decide)) $$ [Hcr HO Hat]
  · isplitr; · iapply (ctx_inv X K (c, none)); iexact Hc
    isplitl [Hcr]; · iexact Hcr
    isplitl [HO]; · iexact HO
    isplitr
    · iapply hmw; iexact Hc
    iexact Hat
  iintro ⟨HO, Hat, -, Hp⟩
  imod (close_core X K (c, none) (0 + 1) (duties_later X _)) $$ [Hat] with Hz
  · isplitr; · iexact Hc
    iexact Hat
  ihave Hp' := (Entails.of_eq hpay) $$ Hp
  iapply Hk
  isplitl [HO]; · iexists _; iexact HO
  isplitl [Hz]; · iexact Hz
  iexact Hp'

end Cert.KernelIdeal.Links
-- ==== Proof.KernelIdeal.Buffers.lean ====
/-
# The buffers of the kernel

How the landing buffers split into slots and are put together again, how the stages split into shares, and what loads and
stores of rows read and leave.
-/
module

public import proofs.«01_k».proof.Proof.KernelIdeal.Steps
public import Idealize.ShloMosaic.Lib.ValueLayout
public import Idealize.ShloMosaic.Lib.Pipeline.Value

@[expose] public section

noncomputable section

namespace Cert.KernelIdeal.Links

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A buffer of device `c`, whole, at a share. -/
abbrev has (c : Dev nD) (b : Ref sig .tc) (q : PosShare TreeShare) (f : b.ty.Contents (Elt F)) : sProp 𝕄 :=
  (((c : Thread nD τ).loc b) ↦{q} f)
/-- Part of a buffer of device `c`. -/
abbrev hasOn (c : Dev nD) (b : Ref sig .tc) (S : Finset (Idx ((c : Thread nD τ).loc b))) (q : PosShare TreeShare) (f : b.ty.Contents (Elt F)) : sProp 𝕄 :=
  (((c : Thread nD τ).loc b) ↦[S]{q} f)

theorem both {P Q : sProp 𝕄} (h : P ⊢ Q) (h' : Q ⊢ P) : P = Q := equiv_iff.mp ⟨h, h'⟩

theorem owns_has (c : Dev nD) (b : Ref sig .tc) (q : PosShare TreeShare) (Y : b.ty.Contents (Elt F)) :
    (owns (c : Thread nD τ) (Memref.whole b) q Y : sProp 𝕄) = has c b q Y := by
  rw [owns_whole_eq]
  refine both ?_ ?_
  · iintro ⟨%f, %h, H⟩; subst h; iexact H
  · iintro H; iexists Y; isplitr; · ipureintro; rfl
    iexact H

/-! ## Rows -/

theorem not_row1 {y : S2x512.Idx} (h : (y 0).val = 0) :
    y ∉ Finset.univ.map (Rect.unit (s := S2x512) ![1, 0] S1x512.size inb_S2x512_S1x512_1_0).emb := by
  intro hm
  obtain ⟨z, -, hz⟩ := Finset.mem_map.mp hm
  have h0 : (y 0).val = 1 + 1 * (z 0).val := by rw [← hz]; rfl
  omega

/-- A store of each row leaves the two rows. -/
theorem rows_write {Val : EltTy → Type} (m : Memref sig .tc .vmem S2x512 .f32) (f : m.view.ty.Contents Val) (w0 w1 : S1x512.Idx → Val .f32) (y : S2x512.Idx) :
    m.view.read Val ((m.access (Rect.unit (s := S2x512) ![1, 0] S1x512.size inb_S2x512_S1x512_1_0)).write Val
      ((m.access (Rect.unit (s := S2x512) ![0, 0] S1x512.size inb_S2x512_S1x512_0_0)).write Val f w0 Finset.univ) w1 Finset.univ) y
      = if (y 0).val = 0 then w0 (ix2 (0 : Fin 1) (y 1 : Fin 512)) else w1 (ix2 (0 : Fin 1) (y 1 : Fin 512)) := by
  by_cases h : (y 0).val = 0
  · rw [if_pos h]
    refine (View.read_slice_write_of_not_mem _ _ _ _ (not_row1 h)).trans ?_
    have hy : y = (Rect.unit (s := S2x512) ![0, 0] S1x512.size inb_S2x512_S1x512_0_0).emb (ix2 (0 : Fin 1) (y 1 : Fin 512)) := by
      funext a; fin_cases a
      · exact Fin.ext (h.trans rfl)
      · exact Fin.ext (show (y 1).val = 0 + 1 * (y 1).val by omega)
    conv_lhs => rw [hy]
    exact View.read_slice_write_emb _ _ _ (Finset.mem_univ _)
  · rw [if_neg h]
    have hy : y = (Rect.unit (s := S2x512) ![1, 0] S1x512.size inb_S2x512_S1x512_1_0).emb (ix2 (0 : Fin 1) (y 1 : Fin 512)) := by
      have := (y 0).isLt
      have h2 : S2x512.size 0 = 2 := rfl
      funext a; fin_cases a
      · exact Fin.ext (show (y 0).val = 1 + 1 * 0 by omega)
      · exact Fin.ext (show (y 1).val = 0 + 1 * (y 1).val by omega)
    conv_lhs => rw [hy]
    exact View.read_slice_write_emb _ _ _ (Finset.mem_univ _)

/-! ## The plane's landing buffer -/

/-- The elements of the plane's slot `k`; -/
def plSet (k : Link) : Finset S8x2x512.Idx := Finset.univ.filter fun i => (i 0).val = k.val
/-- of the column's. -/
def zcSet (k : Link) : Finset S4x2x512.Idx := Finset.univ.filter fun i => (i 0).val + 8 = k.val

/-- Eight blocks, one behind the other; -/
def stack8 (Y : Fin 8 → Vec F S2x512 .f32) : Vec F S8x2x512 .f32 := fun i => Y (i 0) (ix2 (i 1 : Fin 2) (i 2 : Fin 512))
/-- four. -/
def stack4 (Y : Fin 4 → Vec F S2x512 .f32) : Vec F S4x2x512 .f32 := fun i => Y (i 0) (ix2 (i 1 : Fin 2) (i 2 : Fin 512))

theorem pl_read {Val : EltTy → Type} (k : ℕ) (hk : k < 8) (h) (f : plM.view.ty.Contents Val) (x : S2x512.Idx) :
    (plAt ![k, 0, 0] h).view.read Val f x = f (ix3 (⟨k, hk⟩ : Fin 8) (x 0 : Fin 2) (x 1 : Fin 512)) := by
  rw [eq_ix2 x]
  rw [Memref.read_squeeze_slice _ _ _ _ squeezes_S1x2x512_S2x512.numel_eq]
  refine (ValueIdx.shapeCast_1ab_ab_apply _ _ _ _).trans ?_
  refine congrArg f (funext fun a => ?_)
  fin_cases a
  · exact Fin.ext (show k + 1 * 0 = k by omega)
  · exact Fin.ext (show 0 + 1 * (x 0).val = (x 0).val by omega)
  · exact Fin.ext (show 0 + 1 * (x 1).val = (x 1).val by omega)
theorem zc_read {Val : EltTy → Type} (k : ℕ) (hk : k < 4) (h) (f : zcM.view.ty.Contents Val) (x : S2x512.Idx) :
    (zcAt ![k, 0, 0] h).view.read Val f x = f (ix3 (⟨k, hk⟩ : Fin 4) (x 0 : Fin 2) (x 1 : Fin 512)) := by
  rw [eq_ix2 x]
  rw [Memref.read_squeeze_slice _ _ _ _ squeezes_S1x2x512_S2x512.numel_eq]
  refine (ValueIdx.shapeCast_1ab_ab_apply _ _ _ _).trans ?_
  refine congrArg f (funext fun a => ?_)
  fin_cases a
  · exact Fin.ext (show k + 1 * 0 = k by omega)
  · exact Fin.ext (show 0 + 1 * (x 0).val = (x 0).val by omega)
  · exact Fin.ext (show 0 + 1 * (x 1).val = (x 1).val by omega)

theorem pl_set {k : Link} (hk : k.val < 8) (h) : (plAt ![k.val, 0, 0] h).view.set = plSet k := by
  refine (View.set_reshape _ _).trans ((View.set_slice_whole _ _).trans ?_)
  ext i
  rw [Rect.mem_set_unit]
  unfold plSet
  rw [Finset.mem_filter]
  constructor
  · intro h; have := h 0; exact ⟨Finset.mem_univ _, le_antisymm (Nat.lt_succ_iff.mp this.2) this.1⟩
  · rintro ⟨-, h⟩ a
    fin_cases a
    · exact ⟨h.ge, Nat.lt_succ_iff.mpr h.le⟩
    · exact ⟨Nat.zero_le _, (Nat.zero_add 2).symm ▸ (i 1).isLt⟩
    · exact ⟨Nat.zero_le _, (Nat.zero_add 512).symm ▸ (i 2).isLt⟩
theorem zc_set {k : Link} (hk : ¬ k.val < 8) (h) : (zcAt ![k.val - 8, 0, 0] h).view.set = zcSet k := by
  refine (View.set_reshape _ _).trans ((View.set_slice_whole _ _).trans ?_)
  ext i
  rw [Rect.mem_set_unit]
  unfold zcSet
  rw [Finset.mem_filter]
  constructor
  · intro h
    have h0 := h 0
    have h1 : k.val - 8 ≤ (i 0).val := h0.1
    have h2 : (i 0).val < k.val - 8 + 1 := h0.2
    exact ⟨Finset.mem_univ _, by omega⟩
  · rintro ⟨-, h⟩ a
    fin_cases a
    · exact ⟨show k.val - 8 ≤ (i 0).val by omega, show (i 0).val < k.val - 8 + 1 by omega⟩
    · exact ⟨Nat.zero_le _, (Nat.zero_add 2).symm ▸ (i 1).isLt⟩
    · exact ⟨Nat.zero_le _, (Nat.zero_add 512).symm ▸ (i 2).isLt⟩

theorem pl_cover : (Finset.univ : Finset S8x2x512.Idx) = pls.toFinset.biUnion plSet := by
  have h8 : ∀ n : Fin 8, (⟨n.val, by omega⟩ : Link) ∈ pls.toFinset := by decide
  exact Finset.ext fun i => ⟨fun _ => Finset.mem_biUnion.mpr ⟨_, h8 (i 0), Finset.mem_filter.mpr ⟨Finset.mem_univ _, rfl⟩⟩, fun _ => Finset.mem_univ _⟩
theorem zc_cover : (Finset.univ : Finset S4x2x512.Idx) = zcs.toFinset.biUnion zcSet := by
  have h8 : ∀ n : Fin 4, (⟨n.val + 8, by omega⟩ : Link) ∈ zcs.toFinset := by decide
  exact Finset.ext fun i => ⟨fun _ => Finset.mem_biUnion.mpr ⟨_, h8 (i 0), Finset.mem_filter.mpr ⟨Finset.mem_univ _, rfl⟩⟩, fun _ => Finset.mem_univ _⟩
theorem pl_disj (t t' : Link) (hne : t ≠ t') : Disjoint (plSet t) (plSet t') :=
  Finset.disjoint_left.mpr fun i h h' => hne (Fin.ext ((Finset.mem_filter.mp h).2.symm.trans (Finset.mem_filter.mp h').2))
theorem zc_disj (t t' : Link) (hne : t ≠ t') : Disjoint (zcSet t) (zcSet t') :=
  Finset.disjoint_left.mpr fun i h h' => hne (Fin.ext ((Finset.mem_filter.mp h).2.symm.trans (Finset.mem_filter.mp h').2))

/-- The plane's buffer is its eight slots; -/
theorem pl_fam (c : Dev nD) (q : PosShare TreeShare) (f : Vec F S8x2x512 .f32) :
    has c cc0_scratch2 q f = fam (fun k => hasOn c cc0_scratch2 (plSet k) q f) pls := by
  have h1 : hasOn c cc0_scratch2 Finset.univ q f = hasOn c cc0_scratch2 (pls.toFinset.biUnion plSet) q f := congrArg (fun S => hasOn c cc0_scratch2 S q f) pl_cover
  have h2 := pointsTo_biUnion (nD := nD) (τ := τ) (sig := sig) (Ix := Unit) (Name := ℕ) (U := UU) (Lvl := ℕ) (ℓ := (c : Thread nD τ).loc cc0_scratch2) (q := q) (f := f) pls.toFinset plSet fun t _ t' _ h => pl_disj t t' h
  exact h1.trans (h2.trans (fam_eq (fun k => hasOn c cc0_scratch2 (plSet k) q f) pls (by decide)).symm)
/-- the column's, its four. -/
theorem zc_fam (c : Dev nD) (q : PosShare TreeShare) (f : Vec F S4x2x512 .f32) :
    has c cc0_scratch3 q f = fam (fun k => hasOn c cc0_scratch3 (zcSet k) q f) zcs := by
  have h1 : hasOn c cc0_scratch3 Finset.univ q f = hasOn c cc0_scratch3 (zcs.toFinset.biUnion zcSet) q f := congrArg (fun S => hasOn c cc0_scratch3 S q f) zc_cover
  have h2 := pointsTo_biUnion (nD := nD) (τ := τ) (sig := sig) (Ix := Unit) (Name := ℕ) (U := UU) (Lvl := ℕ) (ℓ := (c : Thread nD τ).loc cc0_scratch3) (q := q) (f := f) zcs.toFinset zcSet fun t _ t' _ h => zc_disj t t' h
  exact h1.trans (h2.trans (fam_eq (fun k => hasOn c cc0_scratch3 (zcSet k) q f) zcs (by decide)).symm)

/-- A slot, at any contents, as elements of its buffer. -/
theorem land_pl (c : Dev nD) {k : Link} (hk : k.val < 8) :
    (land c k : sProp 𝕄) = iprop(∃ f : Vec F S8x2x512 .f32, hasOn c cc0_scratch2 (plSet k) fullShare f) := by
  unfold land
  rw [← plAt_eq hk rfl (pl_inb _ hk), pl_set hk]
  rfl
theorem land_zc (c : Dev nD) {k : Link} (hk : ¬ k.val < 8) :
    (land c k : sProp 𝕄) = iprop(∃ f : Vec F S4x2x512 .f32, hasOn c cc0_scratch3 (zcSet k) fullShare f) := by
  unfold land
  rw [← zcAt_eq hk rfl (zc_inb _ (by have := k.isLt; omega)), zc_set hk]
  rfl

variable (X : Dev nD → Vec F S512x512 .f32)

/-- A filled slot, as elements of its buffer: the stack of all that arrives, there. -/
theorem landed_pl (c : Dev nD) {k : Link} (hk : k.val < 8) :
    landed X c k = hasOn c cc0_scratch2 (plSet k) fullShare (stack8 (plX X c)) := by
  have hsrc : srcC X (peer c k) k = plX X c ⟨k.val, hk⟩ := if_pos hk
  have key : ∀ f : Vec F S8x2x512 .f32, (plAt ![k.val, 0, 0] (pl_inb _ hk)).view.read (Elt F) f = plX X c ⟨k.val, hk⟩
      ↔ ∀ i ∈ plSet k, f i = stack8 (plX X c) i := by
    intro f
    constructor
    · intro h i hi
      have hi0 : i 0 = (⟨k.val, hk⟩ : Fin 8) := Fin.ext (Finset.mem_filter.mp hi).2
      have := congrFun h (ix2 (i 1 : Fin 2) (i 2 : Fin 512))
      rw [pl_read _ hk] at this
      unfold stack8
      rw [hi0, ← this]
      exact congrArg f ((eq_ix3 i).trans (by rw [hi0]; rfl))
    · intro h; funext x
      rw [pl_read _ hk, h _ (Finset.mem_filter.mpr ⟨Finset.mem_univ _, rfl⟩)]
      unfold stack8
      exact congrArg (plX X c ⟨k.val, hk⟩) (eq_ix2 x).symm
  unfold landed owns
  rw [hsrc, ← plAt_eq hk rfl (pl_inb _ hk), pl_set hk]
  refine both ?_ ?_
  · iintro ⟨%f, %h, H⟩
    iapply (Entails.of_eq (pointsTo_congr ((key f).mp h)))
    iexact H
  · iintro H
    iexists (stack8 (plX X c)); isplitr
    · ipureintro; exact (key _).mpr fun _ _ => rfl
    iexact H
theorem landed_zc (c : Dev nD) {k : Link} (hk : ¬ k.val < 8) :
    landed X c k = hasOn c cc0_scratch3 (zcSet k) fullShare (stack4 (zcX X c)) := by
  have hk4 : k.val - 8 < 4 := by have := k.isLt; omega
  have hsrc : srcC X (peer c k) k = zcX X c ⟨k.val - 8, hk4⟩ := by
    unfold srcC zcX; rw [if_neg hk]
    refine congrArg (fun j => st2C X (peer c j)) (Fin.ext (show k.val = 8 + (k.val - 8) by omega))
  have key : ∀ f : Vec F S4x2x512 .f32, (zcAt ![k.val - 8, 0, 0] (zc_inb _ hk4)).view.read (Elt F) f = zcX X c ⟨k.val - 8, hk4⟩
      ↔ ∀ i ∈ zcSet k, f i = stack4 (zcX X c) i := by
    intro f
    constructor
    · intro h i hi
      have hi0 : i 0 = (⟨k.val - 8, hk4⟩ : Fin 4) := Fin.ext (by have := (Finset.mem_filter.mp hi).2; show (i 0).val = k.val - 8; omega)
      have := congrFun h (ix2 (i 1 : Fin 2) (i 2 : Fin 512))
      rw [zc_read _ hk4] at this
      unfold stack4
      rw [hi0, ← this]
      exact congrArg f ((eq_ix3 i).trans (by rw [hi0]; rfl))
    · intro h; funext x
      rw [zc_read _ hk4, h _ (Finset.mem_filter.mpr ⟨Finset.mem_univ _, show k.val - 8 + 8 = k.val by omega⟩)]
      unfold stack4
      exact congrArg (zcX X c ⟨k.val - 8, hk4⟩) (eq_ix2 x).symm
  unfold landed owns
  rw [hsrc, ← zcAt_eq hk rfl (zc_inb _ hk4), zc_set hk]
  refine both ?_ ?_
  · iintro ⟨%f, %h, H⟩
    iapply (Entails.of_eq (pointsTo_congr ((key f).mp h)))
    iexact H
  · iintro H
    iexists (stack4 (zcX X c)); isplitr
    · ipureintro; exact (key _).mpr fun _ _ => rfl
    iexact H

/-- All eight slots filled: the plane's buffer whole; -/
theorem landed_pls (c : Dev nD) : fam (landed X c) pls = has c cc0_scratch2 fullShare (stack8 (plX X c)) := by
  rw [pl_fam]
  exact fam_congr fun k hk => landed_pl X c ((by decide : ∀ k ∈ pls, k.val < 8) k hk)
/-- all four: the column's. -/
theorem landed_zcs (c : Dev nD) : fam (landed X c) zcs = has c cc0_scratch3 fullShare (stack4 (zcX X c)) := by
  rw [zc_fam]
  exact fam_congr fun k hk => landed_zc X c ((by decide : ∀ k ∈ zcs, ¬ k.val < 8) k hk)

/-! ## The stages -/

theorem srcTok_pl (c : Dev nD) {k : Link} (hk : k.val < 8) :
    srcTok X c k = has c cc0_scratch0 (Transfers.shareTokN fullShare (k.val % 8)) (stC X c) := by
  unfold srcTok srcM srcC
  simp only [if_pos hk]
  exact owns_has c cc0_scratch0 _ _
theorem srcTok_zc (c : Dev nD) {k : Link} (hk : ¬ k.val < 8) :
    srcTok X c k = has c cc0_scratch1 (Transfers.shareTokN fullShare (k.val % 8)) (st2C X c) := by
  unfold srcTok srcM srcC
  simp only [if_neg hk]
  exact owns_has c cc0_scratch1 _ _

/-- The first stage: eight shares, and what stays with the device; -/
theorem st_split (c : Dev nD) :
    has c cc0_scratch0 fullShare (stC X c) = iprop(has c cc0_scratch0 (Transfers.shareDrop fullShare 8) (stC X c) ∗ fam (srcTok X c) pls) := by
  have h : fam (srcTok X c) pls = fam (fun k => has c cc0_scratch0 (Transfers.shareTokN fullShare (k.val % 8)) (stC X c)) [7, 6, 5, 4, 3, 2, 1, 0] :=
    (fam_congr fun k hk => srcTok_pl X c ((by decide : ∀ k ∈ pls, k.val < 8) k hk)).trans (fam_perm _ (by decide) (by decide))
  rw [h]
  have e := Transfers.pointsTo_toks_range (nD := nD) (τ := τ) (sig := sig) (Ix := Unit) (Val := Elt F) (ℓ := (c : Thread nD τ).loc cc0_scratch0) (S := Finset.univ) (f := stC X c) (Name := ℕ) (U := UU) (Lvl := ℕ) fullShare 8
  refine (both e.1 e.2).trans ?_
  simp only [Finset.range_add_one, bigSep_insert Finset.notMem_range_self, Finset.range_zero, bigSep_empty]
  rfl
/-- the second: four shares. -/
theorem st2_split (c : Dev nD) :
    has c cc0_scratch1 fullShare (st2C X c) = iprop(has c cc0_scratch1 (Transfers.shareDrop fullShare 4) (st2C X c) ∗ fam (srcTok X c) zcs) := by
  have h : fam (srcTok X c) zcs = fam (fun k => has c cc0_scratch1 (Transfers.shareTokN fullShare (k.val % 8)) (st2C X c)) [11, 10, 9, 8] :=
    (fam_congr fun k hk => srcTok_zc X c ((by decide : ∀ k ∈ zcs, ¬ k.val < 8) k hk)).trans (fam_perm _ (by decide) (by decide))
  rw [h]
  have e := Transfers.pointsTo_toks_range (nD := nD) (τ := τ) (sig := sig) (Ix := Unit) (Val := Elt F) (ℓ := (c : Thread nD τ).loc cc0_scratch1) (S := Finset.univ) (f := st2C X c) (Name := ℕ) (U := UU) (Lvl := ℕ) fullShare 4
  refine (both e.1 e.2).trans ?_
  simp only [Finset.range_add_one, bigSep_insert Finset.notMem_range_self, Finset.range_zero, bigSep_empty]
  rfl

/-! ## Loads of a row across the slots -/

theorem load_pl (Y : Fin 8 → Vec F S2x512 .f32) (r : Fin 2) (h) :
    plM.view.readAt (Elt F) (Rect.unit (s := S8x2x512) ![0, r.val, 0] S8x1x512.size h).toLoadRect (stack8 Y) = gat8 Y r := by
  funext i
  have h1 : (i 1).val = 0 := Nat.lt_one_iff.mp (i 1).isLt
  show stack8 Y _ = Y (i 0) (ix2 r (i 2 : Fin 512))
  unfold stack8
  have e0 : ((Rect.unit (s := S8x2x512) ![0, r.val, 0] S8x1x512.size h).toLoadRect.idx i) 0 = (i 0 : Fin 8) := Fin.ext (show 0 + 1 * (i 0).val = (i 0).val by omega)
  have e1 : ((Rect.unit (s := S8x2x512) ![0, r.val, 0] S8x1x512.size h).toLoadRect.idx i) 1 = (r : Fin 2) := Fin.ext (show r.val + 1 * (i 1).val = r.val by omega)
  have e2 : ((Rect.unit (s := S8x2x512) ![0, r.val, 0] S8x1x512.size h).toLoadRect.idx i) 2 = (i 2 : Fin 512) := Fin.ext (show 0 + 1 * (i 2).val = (i 2).val by omega)
  exact congrArg₂ Y e0 (congrArg₂ ix2 e1 e2)
theorem load_zc (Y : Fin 4 → Vec F S2x512 .f32) (r : Fin 2) (h) :
    zcM.view.readAt (Elt F) (Rect.unit (s := S4x2x512) ![0, r.val, 0] S4x1x512.size h).toLoadRect (stack4 Y) = gat4 Y r := by
  funext i
  have h1 : (i 1).val = 0 := Nat.lt_one_iff.mp (i 1).isLt
  show stack4 Y _ = Y (i 0) (ix2 r (i 2 : Fin 512))
  unfold stack4
  have e0 : ((Rect.unit (s := S4x2x512) ![0, r.val, 0] S4x1x512.size h).toLoadRect.idx i) 0 = (i 0 : Fin 4) := Fin.ext (show 0 + 1 * (i 0).val = (i 0).val by omega)
  have e1 : ((Rect.unit (s := S4x2x512) ![0, r.val, 0] S4x1x512.size h).toLoadRect.idx i) 1 = (r : Fin 2) := Fin.ext (show r.val + 1 * (i 1).val = r.val by omega)
  have e2 : ((Rect.unit (s := S4x2x512) ![0, r.val, 0] S4x1x512.size h).toLoadRect.idx i) 2 = (i 2 : Fin 512) := Fin.ext (show 0 + 1 * (i 2).val = (i 2).val by omega)
  exact congrArg₂ Y e0 (congrArg₂ ix2 e1 e2)

/-! ## A device's own slot -/

/-- An access to the device's own slot stays within it, -/
theorem own_pl_sub (c : Dev nD) (h) :
    (plM.access (Rect.unit (s := S8x2x512) (k0_off17 c) S1x2x512.size h)).setOn Finset.univ ⊆ plSet (ownP c) := by
  have hk : (ownP c).val < 8 := by revert c; decide +kernel
  have ho := off17 c
  revert h; rw [ho]; intro h
  exact (((View.set_reshape _ _).symm.trans (pl_set hk h)).le : _)
theorem own_zc_sub (c : Dev nD) (h) :
    (zcM.access (Rect.unit (s := S4x2x512) (k0_off26 c) S1x2x512.size h)).setOn Finset.univ ⊆ zcSet (ownZ c) := by
  have hk : ¬ (ownZ c).val < 8 := by revert c; decide +kernel
  have ho := off26 c
  revert h; rw [ho]; intro h
  exact (((View.set_reshape _ _).symm.trans (zc_set hk h)).le : _)

/-- and a store of its own block fills it as an arrival would. -/
theorem own_pl_write (c : Dev nD) (h) (f : Vec F S8x2x512 .f32) : ∀ i ∈ plSet (ownP c),
    (plM.access (Rect.unit (s := S8x2x512) (k0_off17 c) S1x2x512.size h)).write (Elt F) f (k0_pay5 (stC X c)) Finset.univ i = stack8 (plX X c) i := by
  have hk : (ownP c).val < 8 := by revert c; decide +kernel
  have ho := off17 c
  revert h; rw [ho]; intro h i hi
  have hi0 : i 0 = (⟨(ownP c).val, hk⟩ : Fin 8) := Fin.ext (Finset.mem_filter.mp hi).2
  have e : i = (plM.access (Rect.unit (s := S8x2x512) ![(ownP c).val, 0, 0] S1x2x512.size h)).emb (ix3 (0 : Fin 1) (i 1 : Fin 2) (i 2 : Fin 512)) := by
    funext a; fin_cases a
    · exact Fin.ext (show (i 0).val = (ownP c).val + 1 * 0 by have := (Finset.mem_filter.mp hi).2; omega)
    · exact Fin.ext (show (i 1).val = 0 + 1 * (i 1).val by omega)
    · exact Fin.ext (show (i 2).val = 0 + 1 * (i 2).val by omega)
  have hv : stack8 (plX X c) i = stC X c (ix2 (i 1 : Fin 2) (i 2 : Fin 512)) := by
    unfold stack8 plX; rw [hi0]
    exact congrArg (fun d => stC X d (ix2 (i 1 : Fin 2) (i 2 : Fin 512))) (peer_ownP c)
  rw [hv]
  conv_lhs => rw [e]
  refine (View.write_emb_of_mem _ _ (Finset.mem_univ _)).trans ?_
  show k0_pay5 (stC X c) (ix3 (0 : Fin 1) (i 1 : Fin 2) (i 2 : Fin 512)) = _
  unfold k0_pay5
  exact (congrFun (shapeCast_self (s := S1x2x512) _ _) _).trans (ValueIdx.shapeCast_ab_1ab_apply _ _ _ _ _)
theorem own_zc_write (c : Dev nD) (h) (f : Vec F S4x2x512 .f32) : ∀ i ∈ zcSet (ownZ c),
    (zcM.access (Rect.unit (s := S4x2x512) (k0_off26 c) S1x2x512.size h)).write (Elt F) f (k0_pay10 (st2C X c)) Finset.univ i = stack4 (zcX X c) i := by
  have hk : ¬ (ownZ c).val < 8 := by revert c; decide +kernel
  have hk4 : (ownZ c).val - 8 < 4 := by have := (ownZ c).isLt; omega
  have ho := off26 c
  revert h; rw [ho]; intro h i hi
  have hi0 : i 0 = (⟨(ownZ c).val - 8, hk4⟩ : Fin 4) := Fin.ext (by have := (Finset.mem_filter.mp hi).2; show (i 0).val = (ownZ c).val - 8; omega)
  have e : i = (zcM.access (Rect.unit (s := S4x2x512) ![(ownZ c).val - 8, 0, 0] S1x2x512.size h)).emb (ix3 (0 : Fin 1) (i 1 : Fin 2) (i 2 : Fin 512)) := by
    funext a; fin_cases a
    · exact Fin.ext (show (i 0).val = (ownZ c).val - 8 + 1 * 0 by have := (Finset.mem_filter.mp hi).2; omega)
    · exact Fin.ext (show (i 1).val = 0 + 1 * (i 1).val by omega)
    · exact Fin.ext (show (i 2).val = 0 + 1 * (i 2).val by omega)
  have hv : stack4 (zcX X c) i = st2C X c (ix2 (i 1 : Fin 2) (i 2 : Fin 512)) := by
    unfold stack4 zcX; rw [hi0]
    have hz : (⟨8 + ((ownZ c).val - 8), by omega⟩ : Link) = ownZ c := Fin.ext (show 8 + ((ownZ c).val - 8) = (ownZ c).val by omega)
    exact congrArg (fun d => st2C X d (ix2 (i 1 : Fin 2) (i 2 : Fin 512))) ((congrArg (peer c) hz).trans (peer_ownZ c))
  rw [hv]
  conv_lhs => rw [e]
  refine (View.write_emb_of_mem _ _ (Finset.mem_univ _)).trans ?_
  show k0_pay10 (st2C X c) (ix3 (0 : Fin 1) (i 1 : Fin 2) (i 2 : Fin 512)) = _
  unfold k0_pay10
  exact (congrFun (shapeCast_self (s := S1x2x512) _ _) _).trans (ValueIdx.shapeCast_ab_1ab_apply _ _ _ _ _)

end Cert.KernelIdeal.Links
-- ==== Proof.KernelIdeal.Parts.lean ====
/-
# The parts of the kernel body

Each part is run once, at a symbolic device: it takes one state of the protocol to the next, beside any other resources.
-/
module

public import proofs.«01_k».proof.Proof.KernelIdeal.Buffers

@[expose] public section

noncomputable section

namespace Cert.KernelIdeal.Links

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x512 .f32) (K : Dev nD × Cix → ℕ)

/-! ## Steps that touch memory -/

variable {α : Type}

/-- A program that is done. -/
theorem pure_step {P : sProp 𝕄} {c : Dev nD} {Q : α → sProp 𝕄} (a : α) (H : P ⊢ Q a) : P ⊢ wpc c (pure a) Q := by
  refine H.trans ?_
  unfold wpc
  rw [wp_pure]
  iintro H; imodintro; iexact H

/-- A program followed by another. -/
theorem bind_step {β : Type} {P : sProp 𝕄} {c : Dev nD} {Q : β → sProp 𝕄} {p : Prog (TpuEff nD τ sig (Elt F) Λ₀ .tc) α} {k : α → Prog (TpuEff nD τ sig (Elt F) Λ₀ .tc) β}
    (H : P ⊢ wpc c p (fun a => wpc c (k a) Q)) : P ⊢ wpc c (p >>= k) Q := by
  unfold wpc at H ⊢
  rw [wp_bind]; exact H

/-- The device's own number. -/
theorem id_step {P : sProp 𝕄} {c : Dev nD} {Q : α → sProp 𝕄} {k : Dev nD → Prog (TpuEff nD τ sig (Elt F) Λ₀ .tc) α}
    (H : P ⊢ wpc c (k c) Q) : P ⊢ wpc c (Prog.lift .deviceId >>= k) Q := by
  refine H.trans (Entails.of_eq ?_)
  exact (wp_deviceId Variants.none (c : Thread nD τ) none Set.univ).symm

/-- A load, its value named. -/
theorem load_step {P R : sProp 𝕄} {c : Dev nD} {Q : α → sProp 𝕄} {s : Shape} {e : EltTy} {m : Memref sig .tc .vmem s e} {r : LoadRect s} {hl : m.view.LoadsAt r}
    {k : (r.shape.Idx → Elt F e) → Prog (TpuEff nD τ sig (Elt F) Λ₀ .tc) α} (S : Finset (Idx (m.view.loc (c : Thread nD τ)))) {q : PosShare TreeShare}
    (f : Buf (Elt F) (m.view.loc (c : Thread nD τ))) (hS : m.view.setOn r.set ⊆ S) {v : r.shape.Idx → Elt F e} (hv : m.view.readAt (Elt F) r f = v)
    (hP : P ⊢ iprop((m.view.loc (c : Thread nD τ) ↦[S]{q} f) ∗ R))
    (H : iprop((m.view.loc (c : Thread nD τ) ↦[S]{q} f) ∗ R) ⊢ wpc c (k v) Q) :
    P ⊢ wpc c (Prog.lift (.load m r hl) >>= k) Q := by
  subst hv
  refine hP.trans ?_
  simp only [Prog.lift, Prog.bind_op, Prog.bind_ret]
  iintro ⟨Hx, HR⟩
  iapply (wp_load Variants.none (c : Thread nD τ) none Set.univ hS) $$ Hx
  iintro Hx
  iapply H
  isplitl [Hx] <;> iassumption

/-- A store, what it leaves named. -/
theorem store_step {P R : sProp 𝕄} {c : Dev nD} {Q : α → sProp 𝕄} {s : Shape} {e : EltTy} {m : Memref sig .tc .vmem s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} (S : Finset (Idx ((m.access r).loc (c : Thread nD τ))))
    (f f' : Buf (Elt F) ((m.access r).loc (c : Thread nD τ))) (hS : (m.access r).setOn Finset.univ ⊆ S)
    (hw : ∀ i ∈ S, (m.access r).write (Elt F) f w Finset.univ i = f' i)
    (hP : P ⊢ iprop(((m.access r).loc (c : Thread nD τ) ↦[S]{fullShare} f) ∗ R))
    (H : iprop(((m.access r).loc (c : Thread nD τ) ↦[S]{fullShare} f') ∗ R) ⊢ wpc c (k ⟨⟩) Q) :
    P ⊢ wpc c (Prog.lift (.store m r w Finset.univ hx hm) >>= k) Q := by
  refine hP.trans ?_
  simp only [Prog.lift, Prog.bind_op, Prog.bind_ret]
  iintro ⟨Hx, HR⟩
  iapply (wp_store Variants.none (c : Thread nD τ) none Set.univ hS) $$ Hx
  iintro Hx
  iapply H
  isplitl [Hx]
  · iapply (Entails.of_eq (pointsTo_congr hw)); iexact Hx
  iexact HR

/-! ## Resources beside the protocol's -/

/-- The duties of a device's own sends, at both ends. -/
def toks (c : Dev nD) : Link → sProp 𝕄 := onA c fun k =>
  iprop(dutyTok ER (sendC c k) 0 0 ∗ dutyTok ER (recvC (peer c k) (slot c k)) 0 0)
/-- What a device waits with at its barrier, and the duties of its sends. -/
def bar (c : Dev nD) : sProp 𝕄 :=
  iprop(atPos ER (barC c) 0 ∅ 0 ∗ cred (tallyAt (barC c) () 10) ∗ fam (toks (F := F) c) alls)
/-- A buffer at any contents. -/
def someOf (c : Dev nD) (b : Ref sig .tc) : sProp 𝕄 := iprop(∃ f : b.ty.Contents (Elt F), has c b fullShare f)
/-- Nothing kept for an idle receive. -/
def noE : Link → sProp 𝕄 := fun _ => iprop(emp)
/-- The index of a link's receive cell; of its send cell. -/
abbrev rI (k : Link) : Cix := some (.inr k)
abbrev sI (k : Link) : Cix := some (.inl k)

theorem sndRes_eq (c : Dev nD) (l : List Link) (hl : l.Nodup) :
    iprop(fam (onA c fun k => land (peer c k) (slot c k)) l ∗ fam (toks c) l) ⊢ fam (sndRes (F := F) c) l := by
  refine (Entails.of_eq (fam_sep _ _ _ hl).symm).trans (fam_mono fun k _ => ?_)
  unfold toks sndRes onA
  by_cases h : act c k
  · simp only [if_pos h]; exact .rfl
  · simp only [if_neg h]; iintro ⟨H, -⟩; iexact H

/-- With nothing left to send nothing is owed. -/
theorem none_above {c : Dev nD} {i : Option Cix} : ∀ g u, 0 < sndOs c [] g u → ∃ x : Dev nD × Cix, g = kcell x ∧ lvR i < lvR (some x.2) :=
  fun g u h => absurd h (Nat.lt_irrefl 0)

/-- The credit of a message into a slot, wherever the slot lies. -/
theorem pl_credit (o h) : (plAt o h).view.dmaCredit = N := rfl
theorem zc_credit (o h) : (zcAt o h).view.dmaCredit = N := rfl

/-! ## Signals -/

/-- The words a device computes from its number. -/
theorem mw_eq : ∀ c : Dev nD, mw c = Scalar.remsi (Scalar.divsi (Dev.word c) 1#32) 32#32 := by decide +kernel
theorem zw_eq : ∀ c : Dev nD, zw c = Scalar.select (Scalar.andi
      (Scalar.cmpi .ne (Scalar.subi (Scalar.extui (Scalar.cmpi .sgt (Scalar.remsi (Scalar.divsi (Dev.word c) 1#32) 32#32) 0#32)) (Scalar.extui (Scalar.cmpi .slt (Scalar.remsi (Scalar.divsi (Dev.word c) 1#32) 32#32) 0#32)))
        (Scalar.subi (Scalar.extui (Scalar.cmpi .sgt 8#32 0#32) : BitVec 32) (Scalar.extui (Scalar.cmpi .slt 8#32 0#32))))
      (Scalar.cmpi .ne (Scalar.remsi (Scalar.remsi (Scalar.divsi (Dev.word c) 1#32) 32#32) 8#32) 0#32))
    (Scalar.subi (Scalar.divsi (Scalar.remsi (Scalar.divsi (Dev.word c) 1#32) 32#32) 8#32) 1#32)
    (Scalar.divsi (Scalar.remsi (Scalar.divsi (Dev.word c) 1#32) 32#32) 8#32) := by decide +kernel
theorem jw_eq : ∀ c : Dev nD, jw c = Scalar.select (Scalar.andi
      (Scalar.xori (Scalar.cmpi .slt (Scalar.remsi (Scalar.remsi (Scalar.divsi (Dev.word c) 1#32) 32#32) (Scalar.select (Scalar.cmpi .eq 8#32 0#32) 1#32 8#32)) 0#32)
        (Scalar.cmpi .slt (Scalar.select (Scalar.cmpi .eq 8#32 0#32) 1#32 8#32) 0#32))
      (Scalar.cmpi .ne (Scalar.remsi (Scalar.remsi (Scalar.divsi (Dev.word c) 1#32) 32#32) (Scalar.select (Scalar.cmpi .eq 8#32 0#32) 1#32 8#32)) 0#32))
    (Scalar.addi (Scalar.remsi (Scalar.remsi (Scalar.divsi (Dev.word c) 1#32) 32#32) (Scalar.select (Scalar.cmpi .eq 8#32 0#32) 1#32 8#32)) (Scalar.select (Scalar.cmpi .eq 8#32 0#32) 1#32 8#32))
    (Scalar.remsi (Scalar.remsi (Scalar.divsi (Dev.word c) 1#32) 32#32) (Scalar.select (Scalar.cmpi .eq 8#32 0#32) 1#32 8#32)) := by decide +kernel

theorem part1 (c : Dev nD) {Q : _ → sProp 𝕄} {R : sProp 𝕄}
    (H : iprop(ctx X K ∗ sigSt c [2, 3, 4, 5, 6, 7, 8, 9, 10, 11] ∗ R) ⊢ Q ⟨c, mw c, zw c, jw c, SemArray.scalar (sig.barrier 0 rfl), 2#32⟩) :
    iprop(ctx X K ∗ sigSt c alls ∗ R)
      ⊢ wpc c (k0_part1 (F := F) xM (Memref.isWhole_whole _) oM (Memref.isWhole_whole _) stM (Memref.isWhole_whole _) st2M (Memref.isWhole_whole _)
          plM (Memref.isWhole_whole _) zcM (Memref.isWhole_whole _) cc0_scratch4 cc0_scratch5 cc0_scratch6 cc0_scratch7) Q := by
  rw [k0_part1_eq_skeleton]; unfold k0_part1_skel
  refine id_step ?_
  refine sig_step X K c 0 (cond1 c) (fun _ => dev1 c) ?_
  refine sig_step X K c 1 (cond2 c) (fun _ => dev2 c) ?_
  refine pure_step _ (H.trans (Entails.of_eq ?_))
  rw [mw_eq c, zw_eq c, jw_eq c]

theorem part2 (c : Dev nD) {Q : PUnit → sProp 𝕄} {R : sProp 𝕄} (v19 v29 c2 : BitVec 32)
    (H : iprop(ctx X K ∗ sigSt c [] ∗ R) ⊢ Q ⟨⟩) :
    iprop(ctx X K ∗ sigSt c [2, 3, 4, 5, 6, 7, 8, 9, 10, 11] ∗ R)
      ⊢ wpc c (k0_part2 (F := F) xM (Memref.isWhole_whole _) oM (Memref.isWhole_whole _) stM (Memref.isWhole_whole _) st2M (Memref.isWhole_whole _)
          plM (Memref.isWhole_whole _) zcM (Memref.isWhole_whole _) cc0_scratch4 cc0_scratch5 cc0_scratch6 cc0_scratch7
          c v19 v29 (SemArray.scalar (sig.barrier 0 rfl)) c2) Q := by
  rw [k0_part2_eq_skeleton]; unfold k0_part2_skel
  refine sig_step X K c 2 (cond3 c) (fun _ => dev3 c) ?_
  refine sig_step X K c 3 (cond4 c) (fun _ => dev4 c) ?_
  refine sig_step X K c 4 (cond5 c) (fun _ => dev5 c) ?_
  refine sig_step X K c 5 (cond6 c) (fun _ => dev6 c) ?_
  refine sig_step X K c 6 (cond7 c) (fun _ => dev7 c) ?_
  refine sig_step X K c 7 (cond8 c) (fun _ => dev8 c) ?_
  refine sig_step X K c 8 (cond9 c) (fun _ => dev9 c) ?_
  refine sig_step X K c 9 (cond10 c) (fun _ => dev10 c) ?_
  refine sig_step X K c 10 (cond11 c) (fun _ => dev11 c) ?_
  refine sig_step X K c 11 (cond12 c) (fun _ => dev12 c) ?_
  exact pure_step _ H

/-! ## The device's own maximum, the barrier, the plane's sends -/

/-- The barrier wait with what it joins: the slots it is paid go with the duties of the sends. -/
theorem bar_join {Kp : Prog (TpuEff nD τ sig (Elt F) Λ₀ .tc) α} {Q : α → sProp 𝕄} {R : sProp 𝕄} (c : Dev nD)
    (H : iprop(ctx X K ∗ sndSt X c pls zcs [] ∗ has c cc0_scratch0 (Transfers.shareDrop fullShare 8) (stC X c) ∗ semVal (barC c) 0 ∗ fam (sndRes (F := F) c) zcs ∗ R)
      ⊢ wpc c Kp Q) :
    iprop(ctx X K ∗ sigSt c [] ∗ bar c ∗ has c cc0_scratch0 fullShare (stC X c) ∗ R)
      ⊢ wpc c (semWaitWord barS 10#32 >>= fun _ => Kp) Q := by
  have e1 : (sigOs c [] + sndOs c alls : CellTallies nD τ sig Unit) = sndOs c alls := zero_add _
  have e2 : fam (sndRes (F := F) c) alls = iprop(fam (sndRes c) pls ∗ fam (sndRes c) zcs) := fam_append (sndRes c) pls zcs (by decide)
  unfold sigSt bar
  rw [e1, st_split]
  iintro ⟨#Hc, ⟨HO, -⟩, ⟨Hat, Hcr, Ht⟩, ⟨Hst, Htok⟩, HR⟩
  iapply (bar_step X K c) $$ [HO Hat Hcr]
  · isplitr; · iexact Hc
    isplitl [HO]; · iexact HO
    isplitl [Hat] <;> iassumption
  iintro ⟨HO, Hz, Hl⟩
  ihave Hs := (sndRes_eq c alls (by decide)) $$ [Hl Ht]
  · isplitl [Hl] <;> iassumption
  ihave Hs' := (Entails.of_eq e2) $$ Hs
  icases Hs' with ⟨Hp, Hq⟩
  iapply H
  isplitr; · iexact Hc
  unfold sndSt
  isplitl [HO Hp Htok]
  · isplitl [HO]; · iexact HO
    isplitl [Hp]; · iexact Hp
    isplitl [Htok]; · iexact Htok
    unfold fam; iempintro
  isplitl [Hst]; · iexact Hst
  isplitl [Hz]; · iexact Hz
  isplitl [Hq] <;> iassumption

set_option maxHeartbeats 1600000 in
theorem part3 (c : Dev nD) {Q : BitVec 32 → sProp 𝕄} {R : sProp 𝕄} (v19 v29 : BitVec 32)
    (H : iprop(ctx X K ∗ sndSt X c [2, 3, 4, 5, 6, 7] zcs [1, 0] ∗ has c cc0_scratch0 (Transfers.shareDrop fullShare 8) (stC X c)
      ∗ semVal (barC c) 0 ∗ fam (sndRes (F := F) c) zcs ∗ has c cc0_stg0_0 fullShare (X c) ∗ R) ⊢ Q (Scalar.muli v19 8#32)) :
    iprop(ctx X K ∗ sigSt c [] ∗ bar c ∗ someOf c cc0_scratch0 ∗ has c cc0_stg0_0 fullShare (X c) ∗ R)
      ⊢ wpc c (k0_part3 (F := F) xM (Memref.isWhole_whole _) oM (Memref.isWhole_whole _) stM (Memref.isWhole_whole _) st2M (Memref.isWhole_whole _)
          plM (Memref.isWhole_whole _) zcM (Memref.isWhole_whole _) cc0_scratch4 cc0_scratch5 cc0_scratch6 cc0_scratch7
          c (mw c) v19 v29 (SemArray.scalar (sig.barrier 0 rfl))) Q := by
  rw [k0_part3_eq_skeleton]; unfold k0_part3_skel
  refine load_step (R := iprop(ctx X K ∗ sigSt c [] ∗ bar c ∗ someOf c cc0_scratch0 ∗ R)) Finset.univ (X c) (Finset.subset_univ _)
    (Memref.readAt_unit_zero (Elt F) cc0_stg0_0 (by decide) _ _) (q := fullShare) (by iintro ⟨#Hc, Hs, Hb, Hst, Hx, HR⟩; iframe Hx Hc Hs Hb Hst HR) ?_
  refine (show _ ⊢ iprop(∃ f : Vec F S2x512 .f32, has c cc0_scratch0 fullShare f ∗ (has c cc0_stg0_0 fullShare (X c) ∗ ctx X K ∗ sigSt c [] ∗ bar c ∗ R)) from ?_).trans (exists_elim fun f => ?_)
  · unfold someOf
    iintro ⟨Hx, #Hc, Hs, Hb, ⟨%f, Hst⟩, HR⟩
    iexists f
    iframe Hst Hx Hc Hs Hb HR
  refine load_step Finset.univ f (Finset.subset_univ _) rfl (q := fullShare) .rfl ?_
  refine store_step Finset.univ f _ (Finset.subset_univ _) (fun i _ => rfl) .rfl ?_
  refine load_step Finset.univ _ (Finset.subset_univ _) rfl (q := fullShare) .rfl ?_
  refine store_step Finset.univ _ (stC X c) (Finset.subset_univ _) (fun i _ => rows_write stM f _ _ i) .rfl ?_
  refine (show _ ⊢ iprop(ctx X K ∗ sigSt c [] ∗ bar c ∗ has c cc0_scratch0 fullShare (stC X c) ∗ (has c cc0_stg0_0 fullShare (X c) ∗ R)) from ?_).trans (bar_join X K c ?_)
  · iintro ⟨Hst, Hx, #Hc, Hs, Hb, HR⟩
    iframe Hc Hs Hb Hst Hx HR
  refine snd_step X K c 0 (cond13 c) (fun _ => dev13 c) rfl (fun _ => plAt_eq ((slot_lt c 0).mpr (by decide)) (off2 c) _)
    (fun _ => psend_eq (by decide) rfl _) (fun _ => precv_eq ((slot_lt c 0).mpr (by decide)) (off1 c) _) ?_
  refine snd_step X K c 1 (cond14 c) (fun _ => dev14 c) rfl (fun _ => plAt_eq ((slot_lt c 1).mpr (by decide)) (off4 c) _)
    (fun _ => psend_eq (by decide) rfl _) (fun _ => precv_eq ((slot_lt c 1).mpr (by decide)) (off3 c) _) ?_
  exact pure_step _ H

set_option maxHeartbeats 1600000 in
theorem part4 (c : Dev nD) {Q : _ → sProp 𝕄} {R : sProp 𝕄} (v99 : BitVec 32)
    (H : iprop(ctx X K ∗ sndSt X c [7] zcs [6, 5, 4, 3, 2, 1, 0] ∗ R) ⊢ Q ⟨Scalar.addi (Scalar.muli (zw c) 8#32) 7#32, Scalar.extui (Scalar.cmpi .ne (jw c) 7#32)⟩) :
    iprop(ctx X K ∗ sndSt X c [2, 3, 4, 5, 6, 7] zcs [1, 0] ∗ R)
      ⊢ wpc c (k0_part4 (F := F) xM (Memref.isWhole_whole _) oM (Memref.isWhole_whole _) stM (Memref.isWhole_whole _) st2M (Memref.isWhole_whole _)
          plM (Memref.isWhole_whole _) zcM (Memref.isWhole_whole _) cc0_scratch4 cc0_scratch5 cc0_scratch6 cc0_scratch7
          c (zw c) (jw c) v99) Q := by
  rw [k0_part4_eq_skeleton]; unfold k0_part4_skel
  refine snd_step X K c 2 (cond15 c) (fun _ => dev15 c) rfl (fun _ => plAt_eq ((slot_lt c 2).mpr (by decide)) (off6 c) _)
    (fun _ => psend_eq (by decide) rfl _) (fun _ => precv_eq ((slot_lt c 2).mpr (by decide)) (off5 c) _) ?_
  refine snd_step X K c 3 (cond16 c) (fun _ => dev16 c) rfl (fun _ => plAt_eq ((slot_lt c 3).mpr (by decide)) (off8 c) _)
    (fun _ => psend_eq (by decide) rfl _) (fun _ => precv_eq ((slot_lt c 3).mpr (by decide)) (off7 c) _) ?_
  refine snd_step X K c 4 (cond17 c) (fun _ => dev17 c) rfl (fun _ => plAt_eq ((slot_lt c 4).mpr (by decide)) (off10 c) _)
    (fun _ => psend_eq (by decide) rfl _) (fun _ => precv_eq ((slot_lt c 4).mpr (by decide)) (off9 c) _) ?_
  refine snd_step X K c 5 (cond18 c) (fun _ => dev18 c) rfl (fun _ => plAt_eq ((slot_lt c 5).mpr (by decide)) (off12 c) _)
    (fun _ => psend_eq (by decide) rfl _) (fun _ => precv_eq ((slot_lt c 5).mpr (by decide)) (off11 c) _) ?_
  refine snd_step X K c 6 (cond19 c) (fun _ => dev19 c) rfl (fun _ => plAt_eq ((slot_lt c 6).mpr (by decide)) (off14 c) _)
    (fun _ => psend_eq (by decide) rfl _) (fun _ => precv_eq ((slot_lt c 6).mpr (by decide)) (off13 c) _) ?_
  exact pure_step _ H

/-- The elements an access to the device's own slot reads. -/
theorem own_pl_load (c : Dev nD) (h) : plM.view.setOn (Rect.unit (s := S8x2x512) (k0_off17 c) S1x2x512.size h).toLoadRect.set ⊆ plSet (ownP c) := by
  have := own_pl_sub c h
  rwa [View.setOn_univ, View.set_slice] at this
theorem own_zc_load (c : Dev nD) (h) : zcM.view.setOn (Rect.unit (s := S4x2x512) (k0_off26 c) S1x2x512.size h).toLoadRect.set ⊆ zcSet (ownZ c) := by
  have := own_zc_sub c h
  rwa [View.setOn_univ, View.set_slice] at this
theorem ownP_mem (c : Dev nD) : ownP c ∈ pls := by revert c; decide +kernel
theorem ownZ_mem (c : Dev nD) : ownZ c ∈ zcs := by revert c; decide +kernel
theorem ownP_lt (c : Dev nD) : (ownP c).val < 8 := by revert c; decide +kernel
theorem ownZ_ge (c : Dev nD) : ¬ (ownZ c).val < 8 := by revert c; decide +kernel

set_option maxHeartbeats 1600000 in
theorem part5 (c : Dev nD) {Q : PUnit → sProp 𝕄} {R : sProp 𝕄} (v125 v127 : BitVec 32)
    (H : iprop(ctx X K ∗ wtSt X c rI noE [5, 6, 7] [4, 3, 2, 1, 0] zcs ∗ landed X c (ownP c) ∗ has c cc0_scratch0 (Transfers.shareDrop fullShare 8) (stC X c)
      ∗ fam (flight X c) [7, 6, 5, 4, 3, 2, 1, 0] ∗ R) ⊢ Q ⟨⟩) :
    iprop(ctx X K ∗ sndSt X c [7] zcs [6, 5, 4, 3, 2, 1, 0] ∗ has c cc0_scratch0 (Transfers.shareDrop fullShare 8) (stC X c) ∗ land c (ownP c) ∗ fam (wt c rI noE) pls ∗ R)
      ⊢ wpc c (k0_part5 (F := F) xM (Memref.isWhole_whole _) oM (Memref.isWhole_whole _) stM (Memref.isWhole_whole _) st2M (Memref.isWhole_whole _)
          plM (Memref.isWhole_whole _) zcM (Memref.isWhole_whole _) cc0_scratch4 cc0_scratch5 cc0_scratch6 cc0_scratch7
          c (jw c) v125 v127) Q := by
  rw [k0_part5_eq_skeleton]; unfold k0_part5_skel
  refine snd_step X K c 7 (cond20 c) (fun _ => dev20 c) rfl (fun _ => plAt_eq ((slot_lt c 7).mpr (by decide)) (off16 c) _)
    (fun _ => psend_eq (by decide) rfl _) (fun _ => precv_eq ((slot_lt c 7).mpr (by decide)) (off15 c) _) ?_
  refine load_step (R := iprop(ctx X K ∗ sndSt X c [] zcs [7, 6, 5, 4, 3, 2, 1, 0] ∗ land c (ownP c) ∗ fam (wt c rI noE) pls ∗ R)) Finset.univ (stC X c) (Finset.subset_univ _)
    (Memref.readAt_unit_zero (Elt F) cc0_scratch0 (by decide) _ _) (q := Transfers.shareDrop fullShare 8)
    (by iintro ⟨#Hc, Hs, Hst, Hl, Hw, HR⟩; iframe Hst Hc Hs Hl Hw HR) ?_
  refine (show _ ⊢ iprop(∃ f : Vec F S8x2x512 .f32, hasOn c cc0_scratch2 (plSet (ownP c)) fullShare f ∗ (has c cc0_scratch0 (Transfers.shareDrop fullShare 8) (stC X c)
      ∗ ctx X K ∗ sndSt X c [] zcs [7, 6, 5, 4, 3, 2, 1, 0] ∗ fam (wt c rI noE) pls ∗ R)) from ?_).trans (exists_elim fun f => ?_)
  · rw [land_pl c (ownP_lt c)]
    iintro ⟨Hst, #Hc, Hs, ⟨%f, Hl⟩, Hw, HR⟩
    iexists f
    iframe Hl Hst Hc Hs Hw HR
  refine load_step (plSet (ownP c)) f (own_pl_load c _) rfl (q := fullShare) .rfl ?_
  refine store_step (plSet (ownP c)) f (stack8 (plX X c)) (own_pl_sub c _) (own_pl_write X c _ f) .rfl ?_
  refine (show _ ⊢ iprop(ctx X K ∗ wtSt X c rI noE pls [] zcs ∗ (landed X c (ownP c) ∗ has c cc0_scratch0 (Transfers.shareDrop fullShare 8) (stC X c)
      ∗ fam (flight X c) [7, 6, 5, 4, 3, 2, 1, 0] ∗ R)) from ?_).trans ?_
  · rw [landed_pl X c (ownP_lt c)]
    unfold sndSt wtSt
    iintro ⟨Hl, Hst, #Hc, ⟨HO, -, -, Hf⟩, Hw, HR⟩
    isplitr; · iexact Hc
    isplitl [HO Hw]
    · isplitl [HO]; · iexact HO
      isplitl [Hw]; · iexact Hw
      unfold fam; iempintro
    iframe Hl Hst Hf HR
  refine wt_step X K c 0 rI noE (r := zcs) (condJ c 0 (by decide)) (fun _ => congrArg SemLoc.dma (precv_eq (by decide) rfl _).symm) rfl rfl
    (fun g u h => snd_above_plane (by decide) h) (fun _ => pl_credit _ _) ?_
  refine wt_step X K c 1 rI noE (r := zcs) (condJ c 1 (by decide)) (fun _ => congrArg SemLoc.dma (precv_eq (by decide) rfl _).symm) rfl rfl
    (fun g u h => snd_above_plane (by decide) h) (fun _ => pl_credit _ _) ?_
  refine wt_step X K c 2 rI noE (r := zcs) (condJ c 2 (by decide)) (fun _ => congrArg SemLoc.dma (precv_eq (by decide) rfl _).symm) rfl rfl
    (fun g u h => snd_above_plane (by decide) h) (fun _ => pl_credit _ _) ?_
  refine wt_step X K c 3 rI noE (r := zcs) (condJ c 3 (by decide)) (fun _ => congrArg SemLoc.dma (precv_eq (by decide) rfl _).symm) rfl rfl
    (fun g u h => snd_above_plane (by decide) h) (fun _ => pl_credit _ _) ?_
  refine wt_step X K c 4 rI noE (r := zcs) (condJ c 4 (by decide)) (fun _ => congrArg SemLoc.dma (precv_eq (by decide) rfl _).symm) rfl rfl
    (fun g u h => snd_above_plane (by decide) h) (fun _ => pl_credit _ _) ?_
  exact pure_step _ H

/-- All of the plane's receives done: the counters at zero, and the landing buffer whole. -/
theorem plane_in (c : Dev nD) :
    iprop(fam (dn X c rI noE) [7, 6, 5, 4, 3, 2, 1, 0] ∗ landed X c (ownP c))
      ⊢ iprop(fam (fun k => semVal (recvC c k) 0) pls ∗ has c cc0_scratch2 fullShare (stack8 (plX X c))) := by
  have e : fam (dn X c rI noE) [7, 6, 5, 4, 3, 2, 1, 0] = iprop(fam (fun k => semVal (recvC c k) 0) pls ∗ fam (onA c (landed X c)) pls) :=
    (fam_perm _ (by decide) (by decide)).trans (fam_sep (fun k => semVal (recvC c k) 0) (onA c (landed X c)) pls (by decide))
  rw [e, ← landed_pls, ← (fam_own c (landed X c) (ownP c) pls (by decide) fun k hk => act_iff_plane c k ((by decide : ∀ k ∈ pls, k.val < 8) k hk)).2 (ownP_mem c)]
  iintro ⟨⟨H1, H2⟩, H3⟩
  iframe H1 H2 H3
theorem column_in (c : Dev nD) :
    iprop(fam (dn X c rI noE) [11, 10, 9, 8] ∗ landed X c (ownZ c))
      ⊢ iprop(fam (fun k => semVal (recvC c k) 0) zcs ∗ has c cc0_scratch3 fullShare (stack4 (zcX X c))) := by
  have e : fam (dn X c rI noE) [11, 10, 9, 8] = iprop(fam (fun k => semVal (recvC c k) 0) zcs ∗ fam (onA c (landed X c)) zcs) :=
    (fam_perm _ (by decide) (by decide)).trans (fam_sep (fun k => semVal (recvC c k) 0) (onA c (landed X c)) zcs (by decide))
  rw [e, ← landed_zcs, ← (fam_own c (landed X c) (ownZ c) zcs (by decide) fun k hk => act_iff_col c k ((by decide : ∀ k ∈ zcs, ¬ k.val < 8) k hk)).2 (ownZ_mem c)]
  iintro ⟨⟨H1, H2⟩, H3⟩
  iframe H1 H2 H3

set_option maxHeartbeats 1600000 in
theorem part6 (c : Dev nD) {Q : PUnit → sProp 𝕄} {R : sProp 𝕄}
    (H : iprop(ctx X K ∗ owesE c (sndOs c zcs) ∗ has c cc0_scratch1 fullShare (st2C X c) ∗ has c cc0_scratch2 fullShare (stack8 (plX X c))
      ∗ fam (fun k => semVal (recvC c k) 0) pls ∗ R) ⊢ Q ⟨⟩) :
    iprop(ctx X K ∗ wtSt X c rI noE [5, 6, 7] [4, 3, 2, 1, 0] zcs ∗ landed X c (ownP c) ∗ someOf c cc0_scratch1 ∗ R)
      ⊢ wpc c (k0_part6 (F := F) xM (Memref.isWhole_whole _) oM (Memref.isWhole_whole _) stM (Memref.isWhole_whole _) st2M (Memref.isWhole_whole _)
          plM (Memref.isWhole_whole _) zcM (Memref.isWhole_whole _) cc0_scratch4 cc0_scratch5 cc0_scratch6 cc0_scratch7
          (jw c)) Q := by
  rw [k0_part6_eq_skeleton]; unfold k0_part6_skel
  refine wt_step X K c 5 rI noE (r := zcs) (condJ c 5 (by decide)) (fun _ => congrArg SemLoc.dma (precv_eq (by decide) rfl _).symm) rfl rfl
    (fun g u h => snd_above_plane (by decide) h) (fun _ => pl_credit _ _) ?_
  refine wt_step X K c 6 rI noE (r := zcs) (condJ c 6 (by decide)) (fun _ => congrArg SemLoc.dma (precv_eq (by decide) rfl _).symm) rfl rfl
    (fun g u h => snd_above_plane (by decide) h) (fun _ => pl_credit _ _) ?_
  refine wt_step X K c 7 rI noE (r := zcs) (condJ c 7 (by decide)) (fun _ => congrArg SemLoc.dma (precv_eq (by decide) rfl _).symm) rfl rfl
    (fun g u h => snd_above_plane (by decide) h) (fun _ => pl_credit _ _) ?_
  refine (show _ ⊢ iprop(has c cc0_scratch2 fullShare (stack8 (plX X c)) ∗ (someOf c cc0_scratch1 ∗ ctx X K ∗ owesE c (sndOs c zcs) ∗ fam (fun k => semVal (recvC c k) 0) pls ∗ R)) from ?_).trans ?_
  · unfold wtSt
    iintro ⟨#Hc, ⟨HO, -, Hd⟩, Hl, Hs, HR⟩
    ihave H := (plane_in X c) $$ [Hd Hl]
    · iframe Hd Hl
    icases H with ⟨Hz, Hb⟩
    iframe Hb Hs Hc HO Hz HR
  refine load_step Finset.univ _ (Finset.subset_univ _) (load_pl (plX X c) 0 _) (q := fullShare) .rfl ?_
  refine load_step Finset.univ _ (Finset.subset_univ _) (load_pl (plX X c) 1 _) (q := fullShare) .rfl ?_
  refine (show _ ⊢ iprop(∃ f : Vec F S2x512 .f32, has c cc0_scratch1 fullShare f ∗ (has c cc0_scratch2 fullShare (stack8 (plX X c)) ∗ ctx X K ∗ owesE c (sndOs c zcs)
      ∗ fam (fun k => semVal (recvC c k) 0) pls ∗ R)) from ?_).trans (exists_elim fun f => ?_)
  · unfold someOf
    iintro ⟨Hb, ⟨%f, Hs⟩, H⟩
    iexists f
    iframe Hs Hb H
  refine load_step Finset.univ f (Finset.subset_univ _) rfl (q := fullShare) .rfl ?_
  refine store_step Finset.univ f _ (Finset.subset_univ _) (fun i _ => rfl) .rfl ?_
  refine load_step Finset.univ _ (Finset.subset_univ _) rfl (q := fullShare) .rfl ?_
  refine store_step Finset.univ _ (st2C X c) (Finset.subset_univ _) (fun i _ => rows_write st2M f _ _ i) .rfl ?_
  refine pure_step _ (BIBase.Entails.trans ?_ H)
  iintro ⟨Hs, Hb, #Hc, HO, Hz, HR⟩
  iframe Hc HO Hs Hb Hz HR

/-! ## The column -/

set_option maxHeartbeats 1600000 in
theorem part7 (c : Dev nD) {Q : BitVec 32 → sProp 𝕄} {R : sProp 𝕄}
    (H : iprop(ctx X K ∗ wtSt X c rI noE [9, 10, 11] [8] [] ∗ landed X c (ownZ c) ∗ has c cc0_scratch1 (Transfers.shareDrop fullShare 4) (st2C X c)
      ∗ fam (flight X c) [11, 10, 9, 8] ∗ R) ⊢ Q (Scalar.extui (Scalar.cmpi .ne (zw c) 1#32))) :
    iprop(ctx X K ∗ owesE c (sndOs c zcs) ∗ has c cc0_scratch1 fullShare (st2C X c) ∗ fam (sndRes (F := F) c) zcs ∗ land c (ownZ c) ∗ fam (wt c rI noE) zcs ∗ R)
      ⊢ wpc c (k0_part7 (F := F) xM (Memref.isWhole_whole _) oM (Memref.isWhole_whole _) stM (Memref.isWhole_whole _) st2M (Memref.isWhole_whole _)
          plM (Memref.isWhole_whole _) zcM (Memref.isWhole_whole _) cc0_scratch4 cc0_scratch5 cc0_scratch6 cc0_scratch7
          c (zw c) (jw c)) Q := by
  rw [k0_part7_eq_skeleton]; unfold k0_part7_skel
  refine (show _ ⊢ iprop(ctx X K ∗ sndSt X c zcs [] [] ∗ (has c cc0_scratch1 (Transfers.shareDrop fullShare 4) (st2C X c) ∗ land c (ownZ c) ∗ fam (wt c rI noE) zcs ∗ R)) from ?_).trans ?_
  · rw [st2_split]
    unfold sndSt
    iintro ⟨#Hc, HO, ⟨Hd, Ht⟩, Hr, Hl, Hw, HR⟩
    isplitr; · iexact Hc
    isplitl [HO Ht Hr]
    · isplitl [HO]; · iexact HO
      isplitl [Hr]; · iexact Hr
      isplitl [Ht]; · iexact Ht
      unfold fam; iempintro
    iframe Hd Hl Hw HR
  refine snd_step X K c 8 (cond29 c) (fun _ => dev21 c) rfl (fun _ => zcAt_eq (fun h => absurd ((slot_lt c 8).mp h) (by decide)) (off19 c) _)
    (fun _ => zsend_eq (by decide) rfl _) (fun _ => zrecv_eq (fun h => absurd ((slot_lt c 8).mp h) (by decide)) (off18 c) _) ?_
  refine snd_step X K c 9 (cond30 c) (fun _ => dev22 c) rfl (fun _ => zcAt_eq (fun h => absurd ((slot_lt c 9).mp h) (by decide)) (off21 c) _)
    (fun _ => zsend_eq (by decide) rfl _) (fun _ => zrecv_eq (fun h => absurd ((slot_lt c 9).mp h) (by decide)) (off20 c) _) ?_
  refine snd_step X K c 10 (cond31 c) (fun _ => dev23 c) rfl (fun _ => zcAt_eq (fun h => absurd ((slot_lt c 10).mp h) (by decide)) (off23 c) _)
    (fun _ => zsend_eq (by decide) rfl _) (fun _ => zrecv_eq (fun h => absurd ((slot_lt c 10).mp h) (by decide)) (off22 c) _) ?_
  refine snd_step X K c 11 (cond32 c) (fun _ => dev24 c) rfl (fun _ => zcAt_eq (fun h => absurd ((slot_lt c 11).mp h) (by decide)) (off25 c) _)
    (fun _ => zsend_eq (by decide) rfl _) (fun _ => zrecv_eq (fun h => absurd ((slot_lt c 11).mp h) (by decide)) (off24 c) _) ?_
  refine load_step (R := iprop(ctx X K ∗ sndSt X c [] [] [11, 10, 9, 8] ∗ land c (ownZ c) ∗ fam (wt c rI noE) zcs ∗ R)) Finset.univ (st2C X c) (Finset.subset_univ _)
    (Memref.readAt_unit_zero (Elt F) cc0_scratch1 (by decide) _ _) (q := Transfers.shareDrop fullShare 4)
    (by iintro ⟨#Hc, Hs, Hst, Hl, Hw, HR⟩; iframe Hst Hc Hs Hl Hw HR) ?_
  refine (show _ ⊢ iprop(∃ f : Vec F S4x2x512 .f32, hasOn c cc0_scratch3 (zcSet (ownZ c)) fullShare f ∗ (has c cc0_scratch1 (Transfers.shareDrop fullShare 4) (st2C X c)
      ∗ ctx X K ∗ sndSt X c [] [] [11, 10, 9, 8] ∗ fam (wt c rI noE) zcs ∗ R)) from ?_).trans (exists_elim fun f => ?_)
  · rw [land_zc c (ownZ_ge c)]
    iintro ⟨Hst, #Hc, Hs, ⟨%f, Hl⟩, Hw, HR⟩
    iexists f
    iframe Hl Hst Hc Hs Hw HR
  refine load_step (zcSet (ownZ c)) f (own_zc_load c _) rfl (q := fullShare) .rfl ?_
  refine store_step (zcSet (ownZ c)) f (stack4 (zcX X c)) (own_zc_sub c _) (own_zc_write X c _ f) .rfl ?_
  refine (show _ ⊢ iprop(ctx X K ∗ wtSt X c rI noE zcs [] [] ∗ (landed X c (ownZ c) ∗ has c cc0_scratch1 (Transfers.shareDrop fullShare 4) (st2C X c)
      ∗ fam (flight X c) [11, 10, 9, 8] ∗ R)) from ?_).trans ?_
  · rw [landed_zc X c (ownZ_ge c)]
    unfold sndSt wtSt
    iintro ⟨Hl, Hst, #Hc, ⟨HO, -, -, Hf⟩, Hw, HR⟩
    isplitr; · iexact Hc
    isplitl [HO Hw]
    · isplitl [HO]; · iexact HO
      isplitl [Hw]; · iexact Hw
      unfold fam; iempintro
    iframe Hl Hst Hf HR
  refine wt_step X K c 8 rI noE (r := []) (condZ c 8 (by decide)) (fun _ => congrArg SemLoc.dma (zrecv_eq (by decide) rfl _).symm) rfl rfl
    none_above (fun _ => zc_credit _ _) ?_
  exact pure_step _ H

/-- The positions at the send cells and what is in flight: what the send waits need. -/
theorem send_wait_st (c : Dev nD) :
    iprop(fam (fun k => atPos ER (sendC c k) 0 ∅ 0) alls ∗ fam (flight X c) [7, 6, 5, 4, 3, 2, 1, 0] ∗ fam (flight X c) [11, 10, 9, 8])
      ⊢ fam (wt c sI (srcTok X c)) alls := by
  have e : fam (wt c sI (srcTok X c)) alls = iprop(fam (fun k => atPos ER (sendC c k) 0 ∅ 0) alls ∗ fam (flight X c) alls) :=
    fam_sep (fun k => atPos ER (sendC c k) 0 ∅ 0) (flight X c) alls (by decide)
  have e2 : fam (flight X c) alls = iprop(fam (flight X c) [7, 6, 5, 4, 3, 2, 1, 0] ∗ fam (flight X c) [11, 10, 9, 8]) :=
    (fam_perm _ (by decide) (by decide)).trans (fam_append (flight X c) [7, 6, 5, 4, 3, 2, 1, 0] [11, 10, 9, 8] (by decide))
  rw [e, e2]

set_option maxHeartbeats 1600000 in
theorem part8 (c : Dev nD) {Q : BitVec 32 → sProp 𝕄} {R : sProp 𝕄}
    (H : iprop(ctx X K ∗ wtSt X c sI (srcTok X c) [1, 2, 3, 4, 5, 6, 7, 8, 9, 10, 11] [0] [] ∗ has c cc0_stg1_0 fullShare (outC X c)
      ∗ has c cc0_scratch3 fullShare (stack4 (zcX X c)) ∗ fam (fun k => semVal (recvC c k) 0) zcs ∗ R) ⊢ Q 1#32) :
    iprop(ctx X K ∗ wtSt X c rI noE [9, 10, 11] [8] [] ∗ landed X c (ownZ c) ∗ someOf c cc0_stg1_0 ∗ fam (wt c sI (srcTok X c)) alls ∗ R)
      ⊢ wpc c (k0_part8 (F := F) xM (Memref.isWhole_whole _) oM (Memref.isWhole_whole _) stM (Memref.isWhole_whole _) st2M (Memref.isWhole_whole _)
          plM (Memref.isWhole_whole _) zcM (Memref.isWhole_whole _) cc0_scratch4 cc0_scratch5 cc0_scratch6 cc0_scratch7
          c (zw c) (jw c) (Scalar.extui (Scalar.cmpi .ne (zw c) 1#32))) Q := by
  rw [k0_part8_eq_skeleton]; unfold k0_part8_skel
  refine wt_step X K c 9 rI noE (r := []) (condZ c 9 (by decide)) (fun _ => congrArg SemLoc.dma (zrecv_eq (by decide) rfl _).symm) rfl rfl
    none_above (fun _ => zc_credit _ _) ?_
  refine wt_step X K c 10 rI noE (r := []) (condZ c 10 (by decide)) (fun _ => congrArg SemLoc.dma (zrecv_eq (by decide) rfl _).symm) rfl rfl
    none_above (fun _ => zc_credit _ _) ?_
  refine wt_step X K c 11 rI noE (r := []) (condZ c 11 (by decide)) (fun _ => congrArg SemLoc.dma (zrecv_eq (by decide) rfl _).symm) rfl rfl
    none_above (fun _ => zc_credit _ _) ?_
  refine (show _ ⊢ iprop(has c cc0_scratch3 fullShare (stack4 (zcX X c)) ∗ (someOf c cc0_stg1_0 ∗ ctx X K ∗ owesE c (sndOs c []) ∗ fam (fun k => semVal (recvC c k) 0) zcs
      ∗ fam (wt c sI (srcTok X c)) alls ∗ R)) from ?_).trans ?_
  · unfold wtSt
    iintro ⟨#Hc, ⟨HO, -, Hd⟩, Hl, Hs, Hw, HR⟩
    ihave H := (column_in X c) $$ [Hd Hl]
    · iframe Hd Hl
    icases H with ⟨Hz, Hb⟩
    iframe Hb Hs Hc HO Hz Hw HR
  refine load_step Finset.univ _ (Finset.subset_univ _) (load_zc (zcX X c) 0 _) (q := fullShare) .rfl ?_
  refine load_step Finset.univ _ (Finset.subset_univ _) (load_zc (zcX X c) 1 _) (q := fullShare) .rfl ?_
  refine (show _ ⊢ iprop(∃ f : Vec F S2x512 .f32, has c cc0_stg1_0 fullShare f ∗ (has c cc0_scratch3 fullShare (stack4 (zcX X c)) ∗ ctx X K ∗ owesE c (sndOs c [])
      ∗ fam (fun k => semVal (recvC c k) 0) zcs ∗ fam (wt c sI (srcTok X c)) alls ∗ R)) from ?_).trans (exists_elim fun f => ?_)
  · unfold someOf
    iintro ⟨Hb, ⟨%f, Hs⟩, H⟩
    iexists f
    iframe Hs Hb H
  refine load_step Finset.univ f (Finset.subset_univ _) rfl (q := fullShare) .rfl ?_
  refine store_step Finset.univ f _ (Finset.subset_univ _) (fun i _ => rfl) .rfl ?_
  refine load_step Finset.univ _ (Finset.subset_univ _) rfl (q := fullShare) .rfl ?_
  refine store_step Finset.univ _ (outC X c) (Finset.subset_univ _) (fun i _ => rows_write oM f _ _ i) .rfl ?_
  refine (show _ ⊢ iprop(ctx X K ∗ wtSt X c sI (srcTok X c) alls [] [] ∗ (has c cc0_stg1_0 fullShare (outC X c)
      ∗ has c cc0_scratch3 fullShare (stack4 (zcX X c)) ∗ fam (fun k => semVal (recvC c k) 0) zcs ∗ R)) from ?_).trans ?_
  · unfold wtSt
    iintro ⟨Hs, Hb, #Hc, HO, Hz, Hw, HR⟩
    isplitr; · iexact Hc
    isplitl [HO Hw]
    · isplitl [HO]; · iexact HO
      isplitl [Hw]; · iexact Hw
      unfold fam; iempintro
    iframe Hs Hb Hz HR
  refine wt_step X K c 0 sI (srcTok X c) (r := []) (dst := fun _ => stM) (cond37 c) (fun _ => congrArg SemLoc.dma (psend_eq (by decide) rfl _).symm) rfl rfl
    none_above (fun _ => rfl) ?_
  exact pure_step _ H

set_option maxHeartbeats 1600000 in
theorem part9 (c : Dev nD) {Q : _ → sProp 𝕄} {R : sProp 𝕄} (v : BitVec 32)
    (H : ∀ a, iprop(ctx X K ∗ wtSt X c sI (srcTok X c) [9, 10, 11] [8, 7, 6, 5, 4, 3, 2, 1, 0] [] ∗ R) ⊢ Q a) :
    iprop(ctx X K ∗ wtSt X c sI (srcTok X c) [1, 2, 3, 4, 5, 6, 7, 8, 9, 10, 11] [0] [] ∗ R)
      ⊢ wpc c (k0_part9 (F := F) xM (Memref.isWhole_whole _) oM (Memref.isWhole_whole _) stM (Memref.isWhole_whole _) st2M (Memref.isWhole_whole _)
          plM (Memref.isWhole_whole _) zcM (Memref.isWhole_whole _) cc0_scratch4 cc0_scratch5 cc0_scratch6 cc0_scratch7
          c (zw c) (jw c) v) Q := by
  rw [k0_part9_eq_skeleton]; unfold k0_part9_skel
  refine wt_step X K c 1 sI (srcTok X c) (r := []) (dst := fun _ => stM) (cond38 c) (fun _ => congrArg SemLoc.dma (psend_eq (by decide) rfl _).symm) rfl rfl
    none_above (fun _ => rfl) ?_
  refine wt_step X K c 2 sI (srcTok X c) (r := []) (dst := fun _ => stM) (cond39 c) (fun _ => congrArg SemLoc.dma (psend_eq (by decide) rfl _).symm) rfl rfl
    none_above (fun _ => rfl) ?_
  refine wt_step X K c 3 sI (srcTok X c) (r := []) (dst := fun _ => stM) (cond40 c) (fun _ => congrArg SemLoc.dma (psend_eq (by decide) rfl _).symm) rfl rfl
    none_above (fun _ => rfl) ?_
  refine wt_step X K c 4 sI (srcTok X c) (r := []) (dst := fun _ => stM) (cond41 c) (fun _ => congrArg SemLoc.dma (psend_eq (by decide) rfl _).symm) rfl rfl
    none_above (fun _ => rfl) ?_
  refine wt_step X K c 5 sI (srcTok X c) (r := []) (dst := fun _ => stM) (cond42 c) (fun _ => congrArg SemLoc.dma (psend_eq (by decide) rfl _).symm) rfl rfl
    none_above (fun _ => rfl) ?_
  refine wt_step X K c 6 sI (srcTok X c) (r := []) (dst := fun _ => stM) (cond43 c) (fun _ => congrArg SemLoc.dma (psend_eq (by decide) rfl _).symm) rfl rfl
    none_above (fun _ => rfl) ?_
  refine wt_step X K c 7 sI (srcTok X c) (r := []) (dst := fun _ => stM) (cond44 c) (fun _ => congrArg SemLoc.dma (psend_eq (by decide) rfl _).symm) rfl rfl
    none_above (fun _ => rfl) ?_
  refine wt_step X K c 8 sI (srcTok X c) (r := []) (dst := fun _ => st2M) (cond45 c) (fun _ => congrArg SemLoc.dma (zsend_eq (by decide) rfl _).symm) rfl rfl
    none_above (fun _ => rfl) ?_
  exact pure_step _ (H _)

end Cert.KernelIdeal.Links
-- ==== Proof.KernelIdeal.Body.lean ====
/-
# The kernel body

The parts put one behind the other: from what a device starts with to what it ends with.
-/
module

public import proofs.«01_k».proof.Proof.KernelIdeal.Parts
@[expose] public section

noncomputable section

namespace Cert.KernelIdeal.Links

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x512 .f32) (K : Dev nD × Cix → ℕ)

/-- What a device's body starts from. -/
def bodyIn (c : Dev nD) : sProp 𝕄 :=
  iprop(sigSt c alls ∗ bar c ∗ someOf c cc0_scratch0 ∗ has c cc0_stg0_0 fullShare (X c) ∗ someOf c cc0_scratch1
    ∗ land c (ownP c) ∗ land c (ownZ c) ∗ fam (wt c rI noE) pls ∗ fam (wt c rI noE) zcs ∗ fam (fun k => atPos ER (sendC c k) 0 ∅ 0) alls
    ∗ someOf c cc0_stg1_0)
/-- What it ends with: nothing owed, every counter at zero, its block as it was, the result, the scratch buffers whole. -/
def bodyOut (c : Dev nD) : sProp 𝕄 :=
  iprop(owesE c 0 ∗ fam (fun k => semVal (sendC c k) 0) alls ∗ fam (fun k => semVal (recvC c k) 0) alls ∗ semVal (barC c) 0
    ∗ has c cc0_stg0_0 fullShare (X c) ∗ has c cc0_stg1_0 fullShare (outC X c)
    ∗ has c cc0_scratch0 fullShare (stC X c) ∗ has c cc0_scratch1 fullShare (st2C X c)
    ∗ has c cc0_scratch2 fullShare (stack8 (plX X c)) ∗ has c cc0_scratch3 fullShare (stack4 (zcX X c)))

/-- All sends back: the counters at zero, and both stages whole. -/
theorem sends_back (c : Dev nD) :
    iprop(fam (dn X c sI (srcTok X c)) [11, 10, 9, 8, 7, 6, 5, 4, 3, 2, 1, 0] ∗ has c cc0_scratch0 (Transfers.shareDrop fullShare 8) (stC X c)
        ∗ has c cc0_scratch1 (Transfers.shareDrop fullShare 4) (st2C X c))
      ⊢ iprop(fam (fun k => semVal (sendC c k) 0) alls ∗ has c cc0_scratch0 fullShare (stC X c) ∗ has c cc0_scratch1 fullShare (st2C X c)) := by
  have e : fam (dn X c sI (srcTok X c)) [11, 10, 9, 8, 7, 6, 5, 4, 3, 2, 1, 0] = iprop(fam (fun k => semVal (sendC c k) 0) alls ∗ fam (srcTok X c) alls) :=
    (fam_perm _ (by decide) (by decide)).trans ((fam_congr fun k _ => by
      unfold dn; exact congrArg (fun P : sProp 𝕄 => iprop(semVal (sendC c k) 0 ∗ P)) (ite_id _)).trans (fam_sep (fun k => semVal (sendC c k) 0) (srcTok X c) alls (by decide)))
  rw [e, st_split, st2_split, show fam (srcTok X c) alls = iprop(fam (srcTok X c) pls ∗ fam (srcTok X c) zcs) from fam_append (srcTok X c) pls zcs (by decide)]
  iintro ⟨⟨H1, H2, H3⟩, H4, H5⟩
  iframe H1 H2 H3 H4 H5

set_option maxHeartbeats 1600000 in
/-- The body of device `c`, from start to end. -/
theorem body_run (c : Dev nD) {Q : PUnit → sProp 𝕄} {R : sProp 𝕄} (H : iprop(bodyOut X c ∗ R) ⊢ Q ⟨⟩) :
    iprop(ctx X K ∗ bodyIn X c ∗ R)
      ⊢ wpc c (cc0_body (F := F) xM (Memref.isWhole_whole _) oM (Memref.isWhole_whole _) stM (Memref.isWhole_whole _) st2M (Memref.isWhole_whole _)
          plM (Memref.isWhole_whole _) zcM (Memref.isWhole_whole _) cc0_scratch4 cc0_scratch5 cc0_scratch6 cc0_scratch7) Q := by
  rw [cc0_body_eq_skeleton]; unfold cc0_body_skel bodyIn
  refine (show _ ⊢ iprop(ctx X K ∗ sigSt c alls ∗ (bar c ∗ someOf c cc0_scratch0 ∗ has c cc0_stg0_0 fullShare (X c) ∗ (someOf c cc0_scratch1
    ∗ land c (ownP c) ∗ land c (ownZ c) ∗ fam (wt c rI noE) pls ∗ fam (wt c rI noE) zcs ∗ fam (fun k => atPos ER (sendC c k) 0 ∅ 0) alls
    ∗ someOf c cc0_stg1_0 ∗ R))) from ?_).trans ?_
  · iintro ⟨#Hc, ⟨H1, H2, H3, H4, H5, H6, H7, H8, H9, H10, H11⟩, HR⟩
    iframe Hc H1 H2 H3 H4 H5 H6 H7 H8 H9 H10 H11 HR
  refine bind_step (part1 X K c ?_)
  refine bind_step (part2 X K c _ _ _ ?_)
  refine bind_step (part3 X K c _ _ ?_)
  refine bind_step (part4 X K c _ ?_)
  refine (show _ ⊢ iprop(ctx X K ∗ sndSt X c [7] zcs [6, 5, 4, 3, 2, 1, 0] ∗ has c cc0_scratch0 (Transfers.shareDrop fullShare 8) (stC X c) ∗ land c (ownP c)
    ∗ fam (wt c rI noE) pls ∗ (semVal (barC c) 0 ∗ fam (sndRes c) zcs ∗ has c cc0_stg0_0 fullShare (X c) ∗ someOf c cc0_scratch1 ∗ land c (ownZ c)
      ∗ fam (wt c rI noE) zcs ∗ fam (fun k => atPos ER (sendC c k) 0 ∅ 0) alls ∗ someOf c cc0_stg1_0 ∗ R)) from ?_).trans ?_
  · iintro ⟨#Hc, Hs, Hd, Hb, Hr, Hx, H5, H6, H7, H8, H9, H10, H11, HR⟩
    iframe Hc Hs Hd Hb Hr Hx H5 H6 H7 H8 H9 H10 H11 HR
  refine bind_step (part5 X K c _ _ ?_)
  refine (show _ ⊢ iprop(ctx X K ∗ wtSt X c rI noE [5, 6, 7] [4, 3, 2, 1, 0] zcs ∗ landed X c (ownP c) ∗ someOf c cc0_scratch1
    ∗ (has c cc0_scratch0 (Transfers.shareDrop fullShare 8) (stC X c) ∗ fam (flight X c) [7, 6, 5, 4, 3, 2, 1, 0] ∗ semVal (barC c) 0 ∗ fam (sndRes c) zcs
      ∗ has c cc0_stg0_0 fullShare (X c) ∗ land c (ownZ c)
      ∗ fam (wt c rI noE) zcs ∗ fam (fun k => atPos ER (sendC c k) 0 ∅ 0) alls ∗ someOf c cc0_stg1_0 ∗ R)) from ?_).trans ?_
  · iintro ⟨#Hc, Hs, Hl, Hd, Hf, Hb, Hr, Hx, H5, H7, H9, H10, H11, HR⟩
    iframe Hc Hs Hl Hd Hf Hb Hr Hx H5 H7 H9 H10 H11 HR
  refine bind_step (part6 X K c ?_)
  refine (show _ ⊢ iprop(ctx X K ∗ owesE c (sndOs c zcs) ∗ has c cc0_scratch1 fullShare (st2C X c) ∗ fam (sndRes c) zcs ∗ land c (ownZ c) ∗ fam (wt c rI noE) zcs
    ∗ (has c cc0_scratch2 fullShare (stack8 (plX X c)) ∗ fam (fun k => semVal (recvC c k) 0) pls
      ∗ has c cc0_scratch0 (Transfers.shareDrop fullShare 8) (stC X c) ∗ fam (flight X c) [7, 6, 5, 4, 3, 2, 1, 0] ∗ semVal (barC c) 0
      ∗ has c cc0_stg0_0 fullShare (X c) ∗ fam (fun k => atPos ER (sendC c k) 0 ∅ 0) alls ∗ someOf c cc0_stg1_0 ∗ R)) from ?_).trans ?_
  · iintro ⟨#Hc, HO, H1, H2, Hz, Hd, Hf, Hb, Hr, Hx, H7, H9, H10, H11, HR⟩
    iframe Hc HO H1 H2 Hz Hd Hf Hb Hr Hx H7 H9 H10 H11 HR
  refine bind_step (part7 X K c ?_)
  refine (show _ ⊢ iprop(ctx X K ∗ wtSt X c rI noE [9, 10, 11] [8] [] ∗ landed X c (ownZ c) ∗ someOf c cc0_stg1_0 ∗ fam (wt c sI (srcTok X c)) alls
    ∗ (has c cc0_scratch1 (Transfers.shareDrop fullShare 4) (st2C X c) ∗ has c cc0_scratch2 fullShare (stack8 (plX X c)) ∗ fam (fun k => semVal (recvC c k) 0) pls
      ∗ has c cc0_scratch0 (Transfers.shareDrop fullShare 8) (stC X c) ∗ semVal (barC c) 0 ∗ has c cc0_stg0_0 fullShare (X c) ∗ R)) from ?_).trans ?_
  · iintro ⟨#Hc, Hw, Hl, H1, Hf4, H2, Hz, Hd, Hf, Hb, Hx, H10, H11, HR⟩
    ihave Hs := (send_wait_st X c) $$ [H10 Hf Hf4]
    · iframe H10 Hf Hf4
    iframe Hc Hw Hl H1 H2 Hz Hd Hb Hx Hs H11 HR
  refine bind_step (part8 X K c ?_)
  refine bind_step (part9 X K c _ fun a => ?_)
  refine wt_step X K c 9 sI (srcTok X c) (r := []) (dst := fun _ => st2M) (cond46 c) (fun _ => congrArg SemLoc.dma (zsend_eq (by decide) rfl _).symm) rfl rfl
    none_above (fun _ => rfl) ?_
  refine wt_step X K c 10 sI (srcTok X c) (r := []) (dst := fun _ => st2M) (cond47 c) (fun _ => congrArg SemLoc.dma (zsend_eq (by decide) rfl _).symm) rfl rfl
    none_above (fun _ => rfl) ?_
  refine wt_step X K c 11 sI (srcTok X c) (r := []) (dst := fun _ => st2M) (cond48 c) (fun _ => congrArg SemLoc.dma (zsend_eq (by decide) rfl _).symm) rfl rfl
    none_above (fun _ => rfl) ?_
  refine pure_step _ (BIBase.Entails.trans ?_ H)
  have er : fam (fun k => (semVal (recvC c k) 0 : sProp 𝕄)) alls = iprop(fam (fun k => semVal (recvC c k) 0) pls ∗ fam (fun k => semVal (recvC c k) 0) zcs) :=
    fam_append (fun k => (semVal (recvC c k) 0 : sProp 𝕄)) pls zcs (by decide)
  have eo : owesE (F := F) c (sndOs c []) = owesE c 0 := rfl
  unfold bodyOut wtSt
  rw [er, eo]
  iintro ⟨-, ⟨HO, -, Hd⟩, Ho, H3, Hz2, H1, H2, Hz, H0, Hb, Hx, HR⟩
  ihave H := (sends_back X c) $$ [Hd H0 H1]
  · iframe Hd H0 H1
  icases H with ⟨Hs, H0, H1⟩
  iframe HO Hs Hz Hz2 Hb Hx Ho H0 H1 H2 H3 HR

end Cert.KernelIdeal.Links
-- ==== Proof.KernelIdeal.Fund.lean ====
/-
# What the launch gives out

The launch opens every cell's protocol, hands each device the tokens of the duties it pays, which belong to the cells at the
far ends of its links, and the credit of what is owed to its own cells.
-/
module

public import proofs.«01_k».proof.Proof.KernelIdeal.Body
@[expose] public section

noncomputable section

namespace Cert.KernelIdeal.Links

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x512 .f32) (K : Dev nD × Cix → ℕ)

/-! ## One device's cells, one by one -/

/-- A device's cells: the barrier and the others. -/
theorem cells_opt (Φ : Cix → sProp 𝕄) : bigSep Finset.univ Φ = iprop(Φ none ∗ bigSep Finset.univ fun i : Link ⊕ Link => Φ (some i)) := by
  rw [bigSep_univ_equiv (Equiv.optionEquivSumPUnit.{0} (Link ⊕ Link)).symm, bigSep_univ_sum]
  refine equiv_iff.mp ⟨BI.sep_comm.trans (BI.sep_mono ?_ (BI.Entails.refl _)), BI.sep_comm.trans (BI.sep_mono (BI.Entails.refl _) ?_)⟩
  · exact bigSep_elim (Finset.mem_univ PUnit.unit)
  · exact Entails.of_eq (bigSep_singleton (i := PUnit.unit) (Φ := fun _ => Φ none)).symm
/-- The others: the send cells and the receive cells. -/
theorem cells_sum (Φ : Link ⊕ Link → sProp 𝕄) :
    bigSep Finset.univ Φ = iprop(fam (fun k => Φ (.inl k)) alls ∗ fam (fun k => Φ (.inr k)) alls) := by
  rw [bigSep_univ_sum, fam_univ, fam_univ]; rfl

/-! ## The tokens -/

/-- The cell and the duty of each token: the barrier's duties are named by links, the other cells have one each. -/
def tokI : Link ⊕ (Link ⊕ Link) → Cix × Link
  | .inl k => (none, k)
  | .inr i => (some i, 0)
theorem tokI_injective : Function.Injective tokI := by
  rintro (k | i) (k' | i') h
  · exact congrArg Sum.inl (congrArg Prod.snd h)
  · exact absurd (congrArg Prod.fst h) (Option.some_ne_none _).symm
  · exact absurd (congrArg Prod.fst h) (Option.some_ne_none _)
  · exact congrArg Sum.inr (Option.some_injective _ (congrArg Prod.fst h))
/-- Every device's tokens. -/
def tokOf (x : Dev nD × (Link ⊕ (Link ⊕ Link))) : GSem nD τ sig × ℕ × Link := (kcell (x.1, (tokI x.2).1), 0, (tokI x.2).2)
theorem tokOf_injective : Function.Injective tokOf := by
  rintro ⟨c, t⟩ ⟨c', t'⟩ h
  have h1 := kcell_injective (congrArg Prod.fst h)
  have h2 : (tokI t).2 = (tokI t').2 := congrArg (fun y => y.2.2) h
  have h3 : t = t' := tokI_injective (Prod.ext (congrArg Prod.snd h1) h2)
  rw [h3, show c = c' from congrArg Prod.fst h1]

def allCells : Finset (GSem nD τ sig) := Finset.univ.map ⟨kcell, kcell_injective⟩
def allToks : Finset (GSem nD τ sig × ℕ × Link) := Finset.univ.map ⟨tokOf, tokOf_injective⟩

/-- The tokens of one device's own cells. -/
def ownToks (c : Dev nD) : sProp 𝕄 :=
  iprop(fam (fun k => dutyTok ER (barC c) 0 k) alls ∗ fam (fun k => dutyTok ER (sendC c k) 0 0) alls ∗ fam (fun k => dutyTok ER (recvC c k) 0 0) alls)
/-- The tokens of the duties one device pays. -/
def payToks (c : Dev nD) : sProp 𝕄 :=
  iprop(fam (fun k => dutyTok ER (barC (peer c k)) 0 (slot c k)) alls ∗ fam (fun k => dutyTok ER (sendC c k) 0 0) alls
    ∗ fam (fun k => dutyTok ER (recvC (peer c k) (slot c k)) 0 0) alls)

/-- What is indexed by all links of all devices may be indexed from their far ends. -/
theorem around (Φ : Dev nD → Link → sProp 𝕄) :
    bigSep Finset.univ (fun c => fam (Φ c) alls) = bigSep Finset.univ fun c => fam (fun k => Φ (peer c k) (slot c k)) alls := by
  simp only [fam_univ]
  rw [← bigSep_univ_prod (fun x : Dev nD × Link => Φ x.1 x.2), bigSep_univ_equiv flip,
    ← bigSep_univ_prod (fun x : Dev nD × Link => Φ (peer x.1 x.2) (slot x.1 x.2))]
  rfl

/-- So the tokens of all cells are the tokens of all payers. -/
theorem toks_around : (bigSep Finset.univ fun c : Dev nD => (ownToks c : sProp 𝕄)) = bigSep Finset.univ fun c : Dev nD => payToks c := by
  unfold ownToks payToks
  rw [bigSep_sep', bigSep_sep', bigSep_sep', bigSep_sep', around fun c k => dutyTok ER (barC c) 0 k, around fun c k => dutyTok ER (recvC c k) 0 0]

/-- Along the idle links a resource is let go. -/
theorem onA_intro (c : Dev nD) (P : Link → sProp 𝕄) : fam P alls ⊢ fam (onA c P) alls :=
  fam_mono fun k _ => by
    unfold onA; split
    · exact BI.Entails.refl _
    · iintro -; iempintro

/-! ## The cells opened -/

/-- A device's positions in its cells. -/
def poss (c : Dev nD) : sProp 𝕄 :=
  iprop(atPos ER (barC c) 0 ∅ 0 ∗ fam (fun k => atPos ER (sendC c k) 0 ∅ 0) alls ∗ fam (fun k => atPos ER (recvC c k) 0 ∅ 0) alls)

/-- What the launch's ghost state deals device `c`. -/
def G (c : Dev nD) : sProp 𝕄 :=
  iprop((bigSep Finset.univ fun i : Cix => roundState ER (Rd X) (kcell (c, i)) 0) ∗ (bigSep Finset.univ fun i : Cix => reached ER (kcell (c, i)) 0)
    ∗ poss c ∗ ownToks c)
/-- What it has once every cell is open. -/
def G' (c : Dev nD) : sProp 𝕄 := iprop(∃ K, records X K ∗ poss c ∗ payToks c)

theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun i : Cix => Φ (kcell (c, i)) := by
    unfold allCells; rw [bigSep_map, bigSep_univ_prod]; rfl
  have hA : bigSep allCells (fun g => (atPos ER g 0 ∅ 0 : sProp 𝕄)) = bigSep Finset.univ fun c : Dev nD => poss c := by
    rw [hX]; exact bigSep_congr fun c _ => by unfold poss; rw [cells_opt, cells_sum]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum, cells_sum, ← fam_univ]; rfl
  iintro H
  imod (Rounds.fund ER (Rd X) allCells allToks) $$ H with ⟨Hst, Hr, Hat, Htok⟩
  imodintro
  ihave Hst' := (Entails.of_eq (hX fun g => roundState ER (Rd X) g 0)) $$ Hst
  ihave Hr' := (Entails.of_eq (hX fun g => reached ER g 0)) $$ Hr
  ihave Hat' := (Entails.of_eq hA) $$ Hat
  ihave Htok' := (Entails.of_eq hT) $$ Htok
  unfold G; simp only [bigSep_sep']
  iframe Hst' Hr' Hat' Htok'

/-- The kernel's own semaphores: the send and the receive cells. -/
abbrev osem (i : Link ⊕ Link) : SemLoc sig := csem (some i)

abbrev ownS (c : Dev nD) : sProp 𝕄 := Pipeline.ownSems0 (Ix := Unit) (Name := ℕ) (U := UU) (Lvl := ℕ) (Val := Elt F) (τ := τ) osem c

theorem ownS_eq (c : Dev nD) : (ownS c : sProp 𝕄) = iprop(fam (fun k => semVal (sendC c k) 0) alls ∗ fam (fun k => semVal (recvC c k) 0) alls) := by
  unfold ownS Pipeline.ownSems0; rw [cells_sum]; rfl
/-- The barrier semaphore is the launch's one unscoped semaphore. -/
theorem unscopedS_eq (c : Dev nD) : (unscopedSems0 c : sProp 𝕄) = semVal (barC c) 0 := by
  unfold unscopedSems0; rw [bigSep_eq_bigSepL_of_eq [SemLoc.reg barS] (by decide) (by decide)]; rfl

theorem sems_eq (c : Dev nD) : iprop(ownS c ∗ unscopedSems0 c) ⊢ (bigSep Finset.univ fun i : Cix => semVal (kcell (c, i)) 0 : sProp 𝕄) := by
  rw [unscopedS_eq, cells_opt]
  exact BI.sep_comm

theorem core_alloc (c : Dev nD) :
    iprop(ownS c ∗ unscopedSems0 c ∗ G X c)
      ⊢ |={Set.univ}=> iprop((bigSep Finset.univ fun i : Cix => iprop(∃ κ : ℕ, cellInv ER (Rd X) κ (kcell (c, i))))
          ∗ (bigSep Finset.univ fun i : Cix => reached ER (kcell (c, i)) 0) ∗ poss c ∗ ownToks c) := by
  have hI : iprop((bigSep Finset.univ fun i : Cix => semVal (kcell (c, i)) 0) ∗ bigSep Finset.univ fun i : Cix => roundState ER (Rd X) (kcell (c, i)) 0)
      ⊢ (|={Set.univ}=> bigSep Finset.univ fun i : Cix => iprop(∃ κ : ℕ, cellInv ER (Rd X) κ (kcell (c, i))) : sProp 𝕄) := by
    rw [← bigSep_sep']
    exact (bigSep_mono fun i _ => (Rounds.body_intro ER (Rd X) (kcell (c, i))).trans inv_alloc).trans (bigSep_fupd _ _)
  unfold G
  iintro ⟨Hos, Hus, Hst, Hr, Hat, Htok⟩
  ihave Hv := (sems_eq (F := F) c) $$ [Hos Hus]
  · iframe Hos Hus
  imod hI $$ [Hv Hst] with Hinv
  · iframe Hv Hst
  imodintro
  iframe Hinv Hr Hat Htok

/-- Beside something that lasts, a family may change member by member. -/
theorem fam_beside {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (BI.sep_mono (BI.bigSep_of_persistent S R) (BI.Entails.refl _)).trans
    ((Entails.of_eq (bigSep_sep' S (fun _ => R) Φ).symm).trans (bigSep_mono fun i _ => h i))

theorem regroup :
    (bigSep Finset.univ fun c : Dev nD => iprop((bigSep Finset.univ fun i : Cix => iprop(∃ κ : ℕ, cellInv ER (Rd X) κ (kcell (c, i))))
          ∗ (bigSep Finset.univ fun i : Cix => reached ER (kcell (c, i)) 0) ∗ poss c ∗ ownToks c) : sProp 𝕄)
      ⊢ bigSep Finset.univ (G' X) := by
  rw [bigSep_sep', bigSep_sep', bigSep_sep', toks_around, ← bigSep_univ_prod (fun x : Dev nD × Cix => iprop(∃ κ : ℕ, cellInv ER (Rd X) κ (kcell x))),
    ← bigSep_univ_prod (fun x : Dev nD × Cix => (reached ER (kcell x) 0 : sProp 𝕄))]
  iintro ⟨HI, #HR, Hat, Htok⟩
  ihave HK := (BI.bigSep_exists_pi Finset.univ (fun (x : Dev nD × Cix) (κ : ℕ) => (cellInv ER (Rd X) κ (kcell x) : sProp 𝕄))) $$ HI
  icases HK with ⟨%K, #HI⟩
  iapply (fam_beside (R := records X K) (Φ := fun c => iprop(poss c ∗ payToks c)) fun c => show _ ⊢ G' X c by
    unfold G'; iintro ⟨#H1, H2, H3⟩; iexists K; iframe H1 H2 H3)
  rw [bigSep_sep']
  unfold records
  iframe HI HR Hat Htok

/-- All cells of all devices opened at once. -/
theorem glob : (bigSep Finset.univ fun c => iprop(ownS c ∗ unscopedSems0 c ∗ G X c) : sProp 𝕄) ⊢ |={Set.univ}=> bigSep Finset.univ (G' X) :=
  ((bigSep_mono fun c _ => core_alloc X c).trans (bigSep_fupd _ _)).trans (BI.fupd_mono (regroup X))

/-! ## The credit -/

/-- What is due at device `c`'s barrier along link `k`; -/
def dueB (c : Dev nD) (k : Link) : CellTallies nD τ sig Unit := if act c k then tallyAt (barC c) () 1 else 0
/-- at its receive cell. -/
def dueR (c : Dev nD) (k : Link) : CellTallies nD τ sig Unit := if act c k then tallyAt (recvC c k) () N else 0

theorem sigO_due (c : Dev nD) (k : Link) : sigO c k = dueB (peer c k) (slot c k) := by
  unfold sigO dueB; simp only [act_flip]
theorem sndO_due (c : Dev nD) (k : Link) : sndO c k = dueR (peer c k) (slot c k) := by
  unfold sndO dueR; simp only [act_flip]

theorem sum_alls (f : Link → CellTallies nD τ sig Unit) (g : GSem nD τ sig) : (alls.map f).sum g () = ∑ k, f k g () := by
  have h : (alls.map f).sum = ∑ k, f k := (Fin.sum_univ_def f).symm
  rw [h, Finset.sum_apply, Finsupp.finsetSum_apply]

/-- What all devices owe a cell is what is due there along its device's links. -/
theorem owed_all (g : GSem nD τ sig) : ∑ d : Dev nD, O₀ d g () = ∑ d : Dev nD, ∑ k : Link, (dueB d k g () + dueR d k g ()) := by
  have h1 : ∀ d : Dev nD, O₀ d g () = ∑ k : Link, (dueB (flip (d, k)).1 (flip (d, k)).2 g () + dueR (flip (d, k)).1 (flip (d, k)).2 g ()) := fun d => by
    unfold O₀ sigOs sndOs
    rw [Pi.add_apply, Finsupp.add_apply, sum_alls, sum_alls, ← Finset.sum_add_distrib]
    exact Finset.sum_congr rfl fun k _ => by rw [sigO_due, sndO_due]; rfl
  rw [Finset.sum_congr rfl fun d _ => h1 d,
    ← Fintype.sum_prod_type (fun x : Dev nD × Link => dueB (flip x).1 (flip x).2 g () + dueR (flip x).1 (flip x).2 g ()),
    Equiv.sum_comp flip fun x : Dev nD × Link => dueB x.1 x.2 g () + dueR x.1 x.2 g (), Fintype.sum_prod_type]

theorem dueB_at (d c : Dev nD) (k : Link) (i : Cix) : dueB d k (kcell (c, i)) () = if act d k ∧ c = d ∧ i = none then 1 else 0 := by
  unfold dueB
  by_cases h : act d k
  · rw [if_pos h, tallyAt_apply]
    refine if_congr ⟨fun h' => ⟨h, ?_⟩, fun h' => ⟨?_, rfl⟩⟩ rfl rfl
    · have := kcell_injective (show kcell (c, i) = kcell (d, none) from h'.1)
      exact ⟨congrArg Prod.fst this, congrArg Prod.snd this⟩
    · rw [h'.2.1, h'.2.2]; rfl
  · rw [if_neg h, if_neg fun h' => h h'.1]; rfl
theorem dueR_at (d c : Dev nD) (k : Link) (i : Cix) : dueR d k (kcell (c, i)) () = if act d k ∧ c = d ∧ i = some (.inr k) then N else 0 := by
  unfold dueR
  by_cases h : act d k
  · rw [if_pos h, tallyAt_apply]
    refine if_congr ⟨fun h' => ⟨h, ?_⟩, fun h' => ⟨?_, rfl⟩⟩ rfl rfl
    · have := kcell_injective (show kcell (c, i) = kcell (d, some (.inr k)) from h'.1)
      exact ⟨congrArg Prod.fst this, congrArg Prod.snd this⟩
    · rw [h'.2.1, h'.2.2]; rfl
  · rw [if_neg h, if_neg fun h' => h h'.1]; rfl

theorem owed_cell (c : Dev nD) (i : Cix) : ∑ d : Dev nD, O₀ d (kcell (c, i)) () = ∑ k : Link, (dueB c k (kcell (c, i)) () + dueR c k (kcell (c, i)) ()) := by
  rw [owed_all]
  refine Finset.sum_eq_single c (fun d _ hd => Finset.sum_eq_zero fun k _ => ?_) fun h => absurd (Finset.mem_univ c) h
  rw [dueB_at, dueR_at, if_neg fun h => hd h.2.1.symm, if_neg fun h => hd h.2.1.symm, Nat.add_zero]

/-- The barrier is owed one unit along each of its ten links; -/
theorem owed_bar (c : Dev nD) : ∑ d : Dev nD, O₀ d (barC c) () = 10 := by
  refine (owed_cell c none).trans ?_
  rw [← card_act c, Finset.card_filter]
  refine Finset.sum_congr rfl fun k _ => ?_
  rw [dueB_at, dueR_at, if_neg (c := act c k ∧ c = c ∧ (none : Cix) = some (.inr k)) fun h => Option.some_ne_none _ h.2.2.symm, Nat.add_zero]
  exact if_congr ⟨fun h => h.1, fun h => ⟨h, rfl, rfl⟩⟩ rfl rfl
/-- a receive cell one message. -/
theorem owed_recv (c : Dev nD) (j : Link) : ∑ d : Dev nD, O₀ d (recvC c j) () = if act c j then N else 0 := by
  refine (owed_cell c (some (.inr j))).trans ?_
  rw [Finset.sum_eq_single j]
  · rw [dueB_at, dueR_at, if_neg fun h => Option.some_ne_none _ h.2.2, Nat.zero_add]
    exact if_congr ⟨fun h => h.1, fun h => ⟨h, rfl, rfl⟩⟩ rfl rfl
  · intro k _ hk
    rw [dueB_at, dueR_at, if_neg fun h => Option.some_ne_none _ h.2.2,
      if_neg fun h => hk (Sum.inr_injective (Option.some_injective _ h.2.2)).symm, Nat.add_zero]
  · exact fun h => absurd (Finset.mem_univ j) h

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The credit the launch deals a device: ten units of its barrier, a message along each link. -/
theorem creds (c : Dev nD) :
    (Pipeline.launchCred O₀ c : sProp 𝕄) ⊢ iprop(cred (tallyAt (barC c) () 10) ∗ fam (onA c fun k => cred (tallyAt (recvC c k) () N)) alls) := by
  have hsub : (Pipeline.launchCred O₀ c : sProp 𝕄)
      ⊢ bigSep Finset.univ fun i : Cix => cred (tallyOn (kcell (c, i)) (launchCredit (Pipeline.owing O₀) 0 (kcell (c, i)))) :=
    (bigSep_subset (Finset.subset_univ (Finset.univ.map ⟨csem, csem_injective⟩))).trans (Entails.of_eq (bigSep_map _))
  refine hsub.trans ?_
  rw [cells_opt, cells_sum]
  refine BI.sep_mono (Entails.of_eq (congrArg cred (launch_at (barC c) 10 (owed_bar c)))) ?_
  have h : fam (fun k => (cred (tallyOn (kcell (c, some (.inr k))) (launchCredit (Pipeline.owing O₀) 0 (kcell (c, some (.inr k))))) : sProp 𝕄)) alls
      ⊢ fam (onA c fun k => cred (tallyAt (recvC c k) () N)) alls := by
    refine fam_mono fun k _ => ?_
    unfold onA; split
    · next h => exact Entails.of_eq (congrArg cred (launch_at (recvC c k) N ((owed_recv c k).trans (if_pos h))))
    · iintro -; iempintro
  refine (show _ ⊢ _ from ?_).trans h
  exact BI.sep_comm.trans (sep_and.trans and_elimL)

end Cert.KernelIdeal.Links
-- ==== Proof.KernelIdeal.Launch.lean ====
/-
# The launch

Every device's run of the kernel, from the memory it starts in to the memory it ends in: its block stays, its result array
holds what the protocol says, and every counter ends at zero.
-/
module

public import proofs.«01_k».proof.Proof.KernelIdeal.Fund
public import proofs.«01_k».proof.Proof.Gen.KernelIdeal.Points
public import proofs.«01_k».proof.Proof.Gen.KernelIdeal.Frame
public import Idealize.ShloMosaic.Lib.Pipeline.Value
public import Idealize.ShloMosaic.Lib.Pipeline.CollectiveSegs
@[expose] public section

noncomputable section

namespace Cert.KernelIdeal.Links

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The block of device `c`, as the kernel is handed it. -/
def blk (c : Dev nD) : Vec F S512x512 .f32 := (win0_0.blk (0 : Fin 1)).view.read (Elt F) (m ((c : Thread nD τ).loc main_arg0))

/-- What device `c` brings to its body beside its buffers. -/
def start (c : Dev nD) : sProp 𝕄 :=
  iprop(G' (blk m) c ∗ cred (tallyAt (barC c) () 10) ∗ fam (onA c fun k => cred (tallyAt (recvC c k) () N)) alls ∗ lvls)
/-- Its scratch buffers, at any contents. -/
def scratch (c : Dev nD) : sProp 𝕄 :=
  iprop(someOf c cc0_scratch0 ∗ someOf c cc0_scratch1 ∗ someOf c cc0_scratch2 ∗ someOf c cc0_scratch3)
/-- Its counters at zero. -/
def zeros (c : Dev nD) : sProp 𝕄 :=
  iprop(fam (fun k => semVal (sendC c k) 0) alls ∗ fam (fun k => semVal (recvC c k) 0) alls ∗ semVal (barC c) 0)

/-- The kernel's data on device `c`: before its one point, what it starts with; after it, its counters and scratch. -/
def dats (_ : Fin 1) (c : Dev nD) : Dat τ (Elt F) Unit ℕ UU ℕ cfg0 c where
  A w := m ((cfg0.win w).arr.view.loc (c : Thread nD τ))
  after w _ := match w with
    | ⟨0, _⟩ => blk m c
    | ⟨1, _⟩ => outC (blk m) c
  Φ t := match t with
    | ⟨0, _⟩ => iprop(start m c ∗ scratch c)
    | ⟨_ + 1, _⟩ => iprop(scratch c ∗ zeros c)
  q _ := fullShare
  owed t := match t with
    | ⟨0, _⟩ => O₀ c
    | ⟨_ + 1, _⟩ => 0

theorem fetched (t : Fin cfg0.N) : (cfg0.win (0 : Fin 2)).fetch t = true := by rw [fin_N0 t]; rfl

/-! ## The body -/

/-- A whole plane buffer, as slots to land in; -/
theorem lands_pl (c : Dev nD) : someOf c cc0_scratch2 ⊢ fam (land (F := F) c) pls := by
  unfold someOf
  iintro ⟨%f, H⟩
  ihave H' := (Entails.of_eq (pl_fam c fullShare f)) $$ H
  iapply (fam_mono fun k hk => show hasOn c cc0_scratch2 (plSet k) fullShare f ⊢ land (F := F) c k by
    rw [land_pl c ((by decide : ∀ k ∈ pls, k.val < 8) k hk)]; iintro H; iexists f; iexact H)
  iexact H'
/-- a whole column buffer. -/
theorem lands_zc (c : Dev nD) : someOf c cc0_scratch3 ⊢ fam (land (F := F) c) zcs := by
  unfold someOf
  iintro ⟨%f, H⟩
  ihave H' := (Entails.of_eq (zc_fam c fullShare f)) $$ H
  iapply (fam_mono fun k hk => show hasOn c cc0_scratch3 (zcSet k) fullShare f ⊢ land (F := F) c k by
    rw [land_zc c ((by decide : ∀ k ∈ zcs, ¬ k.val < 8) k hk)]; iintro H; iexists f; iexact H)
  iexact H'

/-- Both, with the device's own two slots apart. -/
theorem lands (c : Dev nD) :
    iprop(someOf c cc0_scratch2 ∗ someOf c cc0_scratch3) ⊢ iprop(fam (onA c (land (F := F) c)) alls ∗ land c (ownP c) ∗ land c (ownZ c)) := by
  have hp : iprop(fam (onA c (land (F := F) c)) pls ∗ land c (ownP c)) = fam (land c) pls :=
    (fam_own c (land c) (ownP c) pls (by decide) fun k hk => act_iff_plane c k ((by decide : ∀ k ∈ pls, k.val < 8) k hk)).2 (ownP_mem c)
  have hz : iprop(fam (onA c (land (F := F) c)) zcs ∗ land c (ownZ c)) = fam (land c) zcs :=
    (fam_own c (land c) (ownZ c) zcs (by decide) fun k hk => act_iff_col c k ((by decide : ∀ k ∈ zcs, ¬ k.val < 8) k hk)).2 (ownZ_mem c)
  refine BI.Entails.trans (Q := iprop(fam (land (F := F) c) pls ∗ fam (land (F := F) c) zcs)) (BI.sep_mono (lands_pl c) (lands_zc c)) ?_
  rw [← hp, ← hz, show fam (onA c (land (F := F) c)) alls = iprop(fam (onA c (land c)) pls ∗ fam (onA c (land c)) zcs) from fam_append _ pls zcs (by decide)]
  refine (show (_ : sProp 𝕄) ⊢ _ from ?_)
  iintro ⟨⟨H1, H2⟩, H3, H4⟩
  iframe H1 H2 H3 H4

/-- Two resources along the links that lead elsewhere, link by link. -/
theorem onA_sep (c : Dev nD) (P P' : Link → sProp 𝕄) :
    iprop(fam (onA c P) alls ∗ fam (onA c P') alls) = fam (onA c fun k => iprop(P k ∗ P' k)) alls := by
  rw [← fam_sep (onA c P) (onA c P') alls (by decide)]
  refine fam_congr fun k _ => ?_
  unfold onA; split
  · rfl
  · exact equiv_iff.mp BI.emp_sep

/-- Positions and credit along the links, as the waits want them. -/
theorem waits_of (c : Dev nD) :
    iprop(fam (fun k => atPos ER (recvC c k) 0 ∅ 0) alls ∗ fam (onA c fun k => cred (tallyAt (recvC c k) () N)) alls)
      ⊢ (iprop(fam (wt c rI noE) pls ∗ fam (wt c rI noE) zcs) : sProp 𝕄) := by
  refine (Entails.of_eq ?_).trans (Entails.of_eq (fam_append (wt c rI noE) pls zcs (by decide)))
  rw [← fam_sep (fun k => atPos ER (recvC c k) 0 ∅ 0) (onA c fun k => cred (tallyAt (recvC c k) () N)) alls (by decide)]
  exact fam_congr fun k _ => by unfold wt onA noE; rfl

/-- What the launch hands a device is what its body starts from. -/
theorem bodyIn_intro (c : Dev nD) (X : Dev nD → Vec F S512x512 .f32) :
    iprop(poss c ∗ payToks c ∗ cred (tallyAt (barC c) () 10) ∗ fam (onA c fun k => cred (tallyAt (recvC c k) () N)) alls ∗ scratch c
        ∗ owesE c (O₀ c) ∗ has c cc0_stg0_0 fullShare (X c) ∗ someOf c cc0_stg1_0)
      ⊢ bodyIn X c := by
  have ht : iprop(fam (fun k => dutyTok ER (sendC c k) 0 0) alls ∗ fam (fun k => dutyTok ER (recvC (peer c k) (slot c k)) 0 0) alls)
      ⊢ (fam (toks c) alls : sProp 𝕄) :=
    (BI.sep_mono (onA_intro c _) (onA_intro c _)).trans (Entails.of_eq (onA_sep c _ _))
  have hs : iprop(fam (fun k => dutyTok ER (barC (peer c k)) 0 (slot c k)) alls ∗ fam (onA c (land (F := F) c)) alls)
      ⊢ (fam (sigRes c) alls : sProp 𝕄) :=
    (BI.sep_mono (onA_intro c _) (BI.Entails.refl _)).trans (Entails.of_eq (onA_sep c _ _))
  unfold poss payToks scratch bodyIn sigSt bar
  iintro ⟨⟨HaB, HaS, HaR⟩, ⟨HtB, HtS, HtR⟩, HcB, HcR, ⟨Hs0, Hs1, Hs2, Hs3⟩, Ho, Hx, Hout⟩
  ihave HT := ht $$ [HtS HtR]
  · iframe HtS HtR
  ihave HL := (lands c) $$ [Hs2 Hs3]
  · iframe Hs2 Hs3
  icases HL with ⟨HL, HLp, HLz⟩
  ihave HS := hs $$ [HtB HL]
  · iframe HtB HL
  ihave HW := (waits_of c) $$ [HaR HcR]
  · iframe HaR HcR
  icases HW with ⟨HW1, HW2⟩
  unfold O₀
  iframe Ho HS HaB HcB HT Hs0 Hx Hs1 HLp HLz HW1 HW2 HaS Hout

/-- A staging buffer as the library hands it over. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

set_option maxRecDepth 4000 in
def preB (c : Dev nD) : sProp 𝕄 :=
  iprop((start m c ∗ scratch c) ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
set_option maxRecDepth 4000 in
def postB (c : Dev nD) : sProp 𝕄 :=
  iprop((scratch c ∗ zeros c) ∗ (dats m 0 c).owesAt () t0_0.succ ∗ stg c cc0_stg0_0 (blk m c) ∗ stg c cc0_stg1_0 (outC (blk m) c))

theorem post_intro (c : Dev nD) : iprop(bodyOut (blk m) c ∗ emp) ⊢ postB m c := by
  unfold bodyOut postB scratch zeros someOf owesE Dat.owesAt Pipeline.owesWithin
  rw [show (dats m 0 c).owed t0_0.succ = 0 from rfl]
  iintro ⟨⟨⟨%W, HO⟩, HzS, HzR, HzB, Hx, Hout, H0, H1, H2, H3⟩, -⟩
  isplitl [HzS HzR HzB H0 H1 H2 H3]
  · isplitl [H0 H1 H2 H3]
    · isplitl [H0]; · iexists _; iexact H0
      isplitl [H1]; · iexists _; iexact H1
      isplitl [H2]; · iexists _; iexact H2
      iexists _; iexact H3
    iframe HzS HzR HzB
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on device `c`. -/
theorem body_obligation (c : Dev nD) : BodyObligation (dats (F := F) m 0 c) (defs₀ (F := F)) Variants.none () Set.univ := fun t => by
  rw [fin_N0 t]
  rw [bigSep_W0, bigSep_W0]
  simp only [owns_whole_eq]
  show preB m c ⊢ wpc c (cc0_body (F := F) xM (Memref.isWhole_whole _) oM (Memref.isWhole_whole _) stM (Memref.isWhole_whole _) st2M (Memref.isWhole_whole _)
    plM (Memref.isWhole_whole _) zcM (Memref.isWhole_whole _) cc0_scratch4 cc0_scratch5 cc0_scratch6 cc0_scratch7) (fun _ => postB m c)
  unfold preB start G'
  iintro ⟨⟨⟨⟨%K, #HR, Hpos, Htok⟩, HcB, HcR, #Hl⟩, Hscr⟩, Ho, ⟨%d0, %g0, %hg0, Hx⟩, ⟨%d1, %g1, -, Hout⟩⟩
  have hx : g0 = blk m c := by rw [hg0]; unfold Dat.before; rw [if_pos (fetched t0_0)]; rfl
  subst hx
  unfold Dat.owesAt Pipeline.owesWithin
  icases Ho with ⟨%W, -, HO⟩
  iapply (body_run (blk m) K c (post_intro m c))
  isplitr
  · unfold ctx; iframe HR Hl
  isplitl
  · iapply (bodyIn_intro c (blk m))
    isplitl [Hpos]; · iexact Hpos
    isplitl [Htok]; · iexact Htok
    isplitl [HcB]; · iexact HcB
    isplitl [HcR]; · iexact HcR
    isplitl [Hscr]; · iexact Hscr
    isplitl [HO]; · unfold owesE; iexists W; iexact HO
    isplitl [Hx]; · iexact Hx
    unfold someOf; iexists g1; iexact Hout
  · iempintro

/-! ## The launch's side conditions -/

theorem ownSemFacts : Pipeline.OwnSemFacts cfg0.spec osem := by decide +kernel

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts Lx lv
        ∗ Pipeline.launchCred O₀ c ∗ prngReg c (ρ c) ∗ G' (blk m) c)
      ⊢ |={Set.univ}=> iprop(start m c ∗ emp) := by
  unfold start; rw [lvls_eq]
  iintro ⟨-, Hlev, Hcr, -, HG⟩
  ihave Hc := (creds (F := F) c) $$ Hcr
  icases Hc with ⟨H1, H2⟩
  imodintro
  isplitl
  · iframe HG H1 H2 Hlev
  · iempintro

theorem in_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  iintro ⟨Hs, -, Hr⟩
  isplitl [Hs]; · iexact Hs
  unfold scratch someOf; iexact Hr

theorem out_elim (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scratch c ∗ zeros c) from rfl, scopedRest0_eq, unscopedS_eq]
  rw [show (Pipeline.ownSems0 (Ix := Unit) (Name := ℕ) (U := UU) (Lvl := ℕ) (Val := Elt F) (τ := τ) osem c : sProp 𝕄)
    = iprop(fam (fun k => semVal (sendC c k) 0) alls ∗ fam (fun k => semVal (recvC c k) 0) alls) from ownS_eq c]
  unfold zeros
  iintro ⟨Hr, HzS, HzV, HzB⟩
  iframe HzB HzS HzV
  unfold scratch someOf; iexact Hr

/-- The staging semaphores are none of the protocol's. -/
theorem role_none (s : SemLoc sig) (h : ∀ i : Cix, csem i ≠ s) : role s = none :=
  List.find?_eq_none.mpr fun i _ => by simpa using h i

theorem waits (c : Dev nD) : (levAts Lx lv : sProp 𝕄) ⊢ Pipeline.cellsWaits cfgs (dats m) () 0 c :=
  Pipeline.cellsWaits_intro cfgs (dats m) () 0 c fun w s t =>
    mayWait_of c _ 0 _ (by
      rw [role_none _ (by fin_cases w <;> fin_cases s <;> decide +kernel)]; exact Nat.le_refl 0) (by
      rcases t with ⟨_ | _, ht⟩
      · exact fun g u h => O₀_above h
      · exact fun g u h => absurd h (Nat.lt_irrefl 0))

/-! ## The run -/

/-- The contents of the array of window `w` of device `c` at the end. -/
def finalA (c : Dev nD) (w : Fin cfg0.W) : Buf (Elt F) ((cfg0.win w).arr.view.loc (c : Thread nD τ)) := (dats m 0 c).arrAt w cfg0.N

set_option maxRecDepth 8000 in
/-- From any memory with zero counters the launch terminates on every device, with the arrays at `finalA` and every
    counter at zero. -/
theorem run_arrays : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := Lx) (lv := lv) (hL := L_of_ne) (hwaits := waits m)
    (G := G (blk m)) (G' := G' (blk m)) (u₀ := u₀)
    (hu₀ := by
      unfold u₀
      iintro Hu
      ihave H := (ownU_pair _ _) $$ Hu
      icases H with ⟨HP, HX⟩
      imod (fund_all (blk m)) $$ HX with HG
      imodintro
      iframe HP HG)
    (hglob := glob (blk m))
    (hA := fun _ _ => rfl) (hpf := fun _ k => k.elim0)
    (X := start m) (Y := fun c => unscopedSems0 c) (Z := fun _ => iprop(emp))
    (hX := start_intro m ρ) (hin := in_intro m) (hout := out_elim m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The one block of the result window is the whole array. -/
theorem cover (i : S2x512.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  have h0 : (i 0 : Nat) < 2 := (i 0).isLt
  have h1 : (i 1 : Nat) < 512 := (i 1).isLt
  intro a
  match a with
  | ⟨0, _⟩ =>
    show win0_1.index t0_0 0 * win0_1.size 0 ≤ (i 0 : Nat) ∧ (i 0 : Nat) < win0_1.index t0_0 0 * win0_1.size 0 + win0_1.xsize (grid0.coords t0_0) 0
    rw [show win0_1.index t0_0 0 * win0_1.size 0 = 0 from by decide +kernel, show win0_1.xsize (grid0.coords t0_0) 0 = 2 from by decide +kernel]; omega
  | ⟨1, _⟩ =>
    show win0_1.index t0_0 1 * win0_1.size 1 ≤ (i 1 : Nat) ∧ (i 1 : Nat) < win0_1.index t0_0 1 * win0_1.size 1 + win0_1.xsize (grid0.coords t0_0) 1
    rw [show win0_1.index t0_0 1 * win0_1.size 1 = 0 from by decide +kernel, show win0_1.xsize (grid0.coords t0_0) 1 = 512 from by decide +kernel]; omega

/-- The result array ends at what the protocol computes. -/
theorem final_out (c : Dev nD) : finalA m c 1 = outC (blk m) c :=
  (dats m 0 c).arrAt_eq_of_cover 1 (outC (blk m) c) (fun t _ => by
    obtain rfl := fin_N0 t
    unfold Pipeline.Dat.flushed
    rw [show (dats m 0 c).after 1 t0_0 = outC (blk m) c from rfl]
    funext i
    rw [View.read_apply]
    refine congrArg (outC (blk m) c) (funext fun a => Fin.ext ?_)
    match a with
    | ⟨0, _⟩ => show (i 0).val = win0_1.index (0 : Fin 1) 0 * 2 + 1 * (i 0).val; rw [show win0_1.index (0 : Fin 1) 0 = 0 from by decide +kernel]; omega
    | ⟨1, _⟩ => show (i 1).val = win0_1.index (0 : Fin 1) 1 * 512 + 1 * (i 1).val; rw [show win0_1.index (0 : Fin 1) 1 = 0 from by decide +kernel]; omega) cover

/-- The kernel is handed the device's whole argument. -/
theorem blk_eq (c : Dev nD) : blk m c = m ((c : Thread nD τ).loc main_arg0) := by
  unfold blk
  funext i
  rw [View.read_apply]
  refine congrArg (m ((c : Thread nD τ).loc main_arg0)) (funext fun a => Fin.ext ?_)
  match a with
  | ⟨0, _⟩ => show win0_0.index (0 : Fin 1) 0 * 512 + 1 * (i 0).val = (i 0).val; rw [show win0_0.index (0 : Fin 1) 0 = 0 from by decide +kernel]; omega
  | ⟨1, _⟩ => show win0_0.index (0 : Fin 1) 1 * 512 + 1 * (i 1).val = (i 1).val; rw [show win0_0.index (0 : Fin 1) 1 = 0 from by decide +kernel]; omega

/-- From any memory with zero counters every device's run ends with its result at what the protocol computes from all
    devices' arguments, its argument unchanged, and every counter at zero. -/
theorem run : θ_run defs (onTc (τ := τ) (main (F := F))) ⟨m, fun _ => 0, ρ⟩
    (fun r => (∀ c : Dev nD, r.2.mem ((c.tc : Thread nD τ).loc main_v1) = outC (fun d => m ((d.tc : Thread nD τ).loc main_arg0)) c
      ∧ r.2.mem ((c.tc : Thread nD τ).loc main_arg0) = m ((c.tc : Thread nD τ).loc main_arg0)) ∧ r.2.sem = fun _ => 0) :=
  (θ_run defs _ _).mono (fun r h => ⟨fun c => ⟨((h.1 c 1).trans (final_out m c)).trans (congrArg (fun X => outC X c) (funext fun d => blk_eq m d)),
    (h.1 c 0).trans ((dats m 0 c).arrAt_in 0 rfl _)⟩, h.2⟩) (run_arrays m ρ)

end Cert.KernelIdeal.Links
-- ==== Proof.ReferenceIdeal.Run.lean ====
/-
  The reference's run: one straight line of host operations on its one device. Its result is written in one
  formula of its argument, and it declares no semaphore.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Line

open Idealize.ShloMosaic Idealize.SL.Sem Idealize.ShloMosaic.StableHlo Cert.ReferenceIdeal.Gen

variable {F : FTy → Type} [FloatOps F]

/-- The argmax's pair of running value and running row, over the whole column. -/
abbrev pair (x : FVec F S16384x512 .f32) : S512.Idx → F .f32 × BitVec 32 :=
  Host.argReduce reducer_argmax_f32_i32 x (iotaInDim S16384x512 32 0) (constant S_ .f32 0xFF800000#32) (constantI S_ 32 0#32)
    reducesTo_S16384x512_S512_d0 h_S_

/-- The operations of the reference, in order. -/
abbrev ops : List (HloOp τ sig (Elt F)) :=
  [ nullary main_call0_v0 (iotaInDim S16384x512 32 0),
    nullary main_call0_cst (constant S_ .f32 0xFF800000#32),
    nullary main_call0_c (constantI S_ 32 0#32),
    quaternary main_arg0 main_call0_v0 main_call0_cst main_call0_c main_call0_v1_0
      (fun x y u v j => (Host.argReduce reducer_argmax_f32_i32 x y u v reducesTo_S16384x512_S512_d0 h_S_ j).1),
    quaternary main_arg0 main_call0_v0 main_call0_cst main_call0_c main_v0
      (fun x y u v j => (Host.argReduce reducer_argmax_f32_i32 x y u v reducesTo_S16384x512_S512_d0 h_S_ j).2),
    unary main_v0 main_v1 (sitofp .f32),
    nullary main_cst (constant S_ .f32 0xFF800000#32),
    binary main_arg0 main_cst main_v2 (fun x v => Host.reduce FloatOps.maximumf x v reducesTo_S16384x512_S512_d0 h_S_),
    unary main_v2 main_v3 (broadcastInDim S1x512 ![1] bcast_S512_S1x512_1),
    unary main_v1 main_v4 (broadcastInDim S1x512 ![1] bcast_S512_S1x512_1),
    binary main_v3 main_v4 main_v5 (fun a b => concatenate S2x512 0 [⟨S1x512, a⟩, ⟨S1x512, b⟩] concatenates_S1x512_S1x512_S2x512_d0) ]

theorem main_eq (c : Dev nD) : main (F := F) c = seq ops := rfl

/-- Nothing the reference declares is scoped: no buffer … -/
theorem noScopedRefs : (Finset.univ.filter fun b : Ref sig .tc => b.isScoped) = ∅ := by decide

/-- … and no semaphore. -/
theorem noScopedSems : (Finset.univ.filter fun sm : SemLoc sig => sm.isScoped .tc) = ∅ := by decide

/-- Every operation works within the device's own buffers. -/
theorem within : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- The reference's result as a formula of its argument: the column maxima over the rows that attain them first. -/
abbrev result (x : FVec F S16384x512 .f32) : FVec F S2x512 .f32 :=
  concatenate S2x512 0
    [⟨S1x512, broadcastInDim S1x512 ![1] bcast_S512_S1x512_1
        (Host.reduce FloatOps.maximumf x (constant S_ .f32 0xFF800000#32) reducesTo_S16384x512_S512_d0 h_S_)⟩,
     ⟨S1x512, broadcastInDim S1x512 ![1] bcast_S512_S1x512_1 (sitofp .f32 (fun j => (pair x j).2))⟩]
    concatenates_S1x512_S1x512_S2x512_d0

/-- The reference's run ends with its result at `result` of its argument, the argument as it was, and no counter moved. -/
theorem run (m : (ℓ : Loc nD τ sig) → Buf (Elt F) ℓ) (ρ : Dev nD → PrngReg) :
    θ_run defs (onTc (τ := τ) (main (F := F))) ⟨m, fun _ => 0, ρ⟩ fun r =>
      (r.2.mem (((0 : Dev nD).tc : Thread nD τ).loc main_v5) = result (m (((0 : Dev nD).tc : Thread nD τ).loc main_arg0))
      ∧ r.2.mem (((0 : Dev nD).tc : Thread nD τ).loc main_arg0) = m (((0 : Dev nD).tc : Thread nD τ).loc main_arg0))
      ∧ r.2.sem = fun _ => 0 :=
  (θ_run defs _ _).mono (fun r h => ⟨⟨(h 0 main_v5).trans (by after_results; rfl), (h 0 main_arg0).trans (by after_results)⟩,
      Idealize.ShloMosaic.sem_eq_zero_of_no_sems (by decide) r.2⟩)
    (run_seq noScopedRefs noScopedSems defs main (fun _ => ops) main_eq (fun _ => within) m ρ)

end Cert.ReferenceIdeal.Line
-- ==== Proof.Peak.lean ====
/-
  A column of extended reals, cut into runs of rows: where its greatest entry stands first, and how the answers for
  several runs that follow one another are put together into the answer for all of them.
-/
module

public import Mathlib.Data.EReal.Basic
public import Mathlib.Data.Finset.Fold
public import Mathlib.Data.Finset.Max
public import Mathlib.Order.Interval.Finset.Nat

@[expose] public section

namespace Cert.Column

/-- Of the rows from `a` up to `b` (without `b`), `v` is the greatest entry of `f`, and `w` is the first row at which it
    stands, written as an extended real. -/
def Peak (f : ℕ → EReal) (a b : ℕ) (v w : EReal) : Prop :=
  ∃ r : ℕ, a ≤ r ∧ r < b ∧ f r = v ∧ w = ((r : ℝ) : EReal) ∧ (∀ s, a ≤ s → s < b → f s ≤ v) ∧ ∀ s, a ≤ s → s < r → f s < v

/-- The greatest entry and its first row are determined. -/
theorem Peak.unique {f : ℕ → EReal} {a b : ℕ} {v w v' w' : EReal} (h : Peak f a b v w) (h' : Peak f a b v' w') :
    v = v' ∧ w = w' := by
  obtain ⟨r, har, hrb, hv, hw, hle, hlt⟩ := h
  obtain ⟨r', har', hrb', hv', hw', hle', hlt'⟩ := h'
  have e : v = v' := le_antisymm (hv ▸ hle' r har hrb) (hv' ▸ hle r' har' hrb')
  subst e
  have er : r = r' := by
    rcases lt_trichotomy r r' with h | h | h
    · exact absurd hv (ne_of_lt (hlt' r har h))
    · exact h
    · exact absurd hv' (ne_of_lt (hlt r' har' h))
  exact ⟨rfl, by rw [hw, hw', er]⟩

/-- One row alone. -/
theorem Peak.single (f : ℕ → EReal) (a : ℕ) : Peak f a (a + 1) (f a) ((a : ℝ) : EReal) :=
  ⟨a, le_rfl, Nat.lt_succ_self a, rfl, rfl, fun s h h' => by rw [show s = a by omega], fun s h h' => absurd h' (by omega)⟩

/-- A run whose rows are numbered from its own start, renumbered within the column. -/
theorem Peak.shift {f : ℕ → EReal} {o n : ℕ} {v w : EReal} (h : Peak (fun r => f (o + r)) 0 n v w) :
    Peak f o (o + n) v (w + ((o : ℝ) : EReal)) := by
  obtain ⟨r, -, hrn, hv, hw, hle, hlt⟩ := h
  refine ⟨o + r, by omega, by omega, hv, ?_, fun s h1 h2 => ?_, fun s h1 h2 => ?_⟩
  · rw [hw, ← EReal.coe_add]; push_cast; rw [add_comm]
  · have : f (o + (s - o)) ≤ v := hle (s - o) (by omega) (by omega)
    rwa [show o + (s - o) = s by omega] at this
  · have : f (o + (s - o)) < v := hlt (s - o) (by omega) (by omega)
    rwa [show o + (s - o) = s by omega] at this

/-- An entry lies below the greatest of them, -/
theorem le_best {n : ℕ} (V : Fin n → EReal) (k : Fin n) : V k ≤ Finset.univ.fold max ⊥ V :=
  (Finset.le_fold_max (V k)).mpr (.inr ⟨k, Finset.mem_univ k, le_rfl⟩)

/-- which is one of them; -/
theorem best_mem {n : ℕ} (hn : 0 < n) (V : Fin n → EReal) : ∃ k, V k = Finset.univ.fold max ⊥ V := by
  obtain ⟨k, -, hk⟩ := Finset.exists_max_image Finset.univ V ⟨⟨0, hn⟩, Finset.mem_univ _⟩
  exact ⟨k, le_antisymm (le_best V k) (Finset.fold_max_le _ |>.mpr ⟨bot_le, fun i hi => hk i hi⟩)⟩

/-- and the first that is. -/
theorem best_first {n : ℕ} (hn : 0 < n) (V : Fin n → EReal) :
    ∃ k, V k = Finset.univ.fold max ⊥ V ∧ ∀ i, i < k → V i < Finset.univ.fold max ⊥ V := by
  obtain ⟨k₀, hk₀⟩ := best_mem hn V
  have hne : (Finset.univ.filter fun k => V k = Finset.univ.fold max ⊥ V).Nonempty := ⟨k₀, by simp [hk₀]⟩
  refine ⟨Finset.min' _ hne, (Finset.mem_filter.mp (Finset.min'_mem _ hne)).2, fun i hi => lt_of_le_of_ne (le_best V i) fun h => ?_⟩
  exact absurd (Finset.min'_le _ i (Finset.mem_filter.mpr ⟨Finset.mem_univ i, h⟩)) (not_le.mpr hi)

/-- `n` runs of `m` rows each, one after another from row `a`: the greatest of the runs' greatest entries, with the least of
    the rows given by the runs that attain it — a run that does not is given a number beyond every row —, is the greatest
    entry of all the rows with its first row. -/
theorem Peak.join {f : ℕ → EReal} {n m a : ℕ} (hn : 0 < n) {V W : Fin n → EReal} {B : ℝ} (hB : ((a + n * m : ℕ) : ℝ) ≤ B)
    (h : ∀ k : Fin n, Peak f (a + k.val * m) (a + k.val * m + m) (V k) (W k)) :
    Peak f a (a + n * m) (Finset.univ.fold max ⊥ V)
      (Finset.univ.fold min ⊤ fun k => if V k = Finset.univ.fold max ⊥ V then W k else (B : EReal)) := by
  obtain ⟨k₀, hk₀, hfirst⟩ := best_first hn V
  have hmax := le_best V
  generalize Finset.univ.fold max ⊥ V = M at hk₀ hfirst hmax ⊢
  obtain ⟨r, h1, h2, h3, h4, h5, h6⟩ := h k₀
  have step : ∀ k : Fin n, a + k.val * m + m ≤ a + n * m := fun k => by
    have : (k.val + 1) * m ≤ n * m := Nat.mul_le_mul_right m k.isLt
    rw [Nat.succ_mul] at this; omega
  have before : ∀ i k : Fin n, i < k → a + i.val * m + m ≤ a + k.val * m := fun i k hik => by
    have : (i.val + 1) * m ≤ k.val * m := Nat.mul_le_mul_right m hik
    rw [Nat.succ_mul] at this; omega
  have hrow : ∀ s, a ≤ s → s < a + n * m → ∃ k : Fin n, a + k.val * m ≤ s ∧ s < a + k.val * m + m := fun s hs hs' => by
    have hm : 0 < m := Nat.pos_of_ne_zero fun h0 => by subst h0; omega
    refine ⟨⟨(s - a) / m, (Nat.div_lt_iff_lt_mul hm).mpr (by omega)⟩, ?_, ?_⟩
    · have := Nat.div_mul_le_self (s - a) m; show a + (s - a) / m * m ≤ s; omega
    · have := Nat.lt_div_mul_add hm (a := s - a); show s < a + (s - a) / m * m + m; omega
  refine ⟨r, by omega, lt_of_lt_of_le h2 (step k₀), h3.trans hk₀, ?_, fun s hs hs' => ?_, fun s hs hs' => ?_⟩
  · apply le_antisymm
    · refine (Finset.fold_min_le _).mpr (.inr ⟨k₀, Finset.mem_univ _, ?_⟩)
      rw [if_pos hk₀, h4]
    · refine (Finset.le_fold_min _).mpr ⟨le_top, fun k _ => ?_⟩
      by_cases hk : V k = M
      · rw [if_pos hk]
        obtain ⟨r', h1', h2', h3', h4', -⟩ := h k
        rw [h4', EReal.coe_le_coe_iff, Nat.cast_le]
        rcases lt_trichotomy k k₀ with hlt | rfl | hlt
        · exact absurd hk (ne_of_lt (hfirst k hlt))
        · have e : ((r : ℝ) : EReal) = ((r' : ℝ) : EReal) := h4 ▸ h4' ▸ rfl
          rw [EReal.coe_eq_coe_iff, Nat.cast_inj] at e
          exact e.le
        · have := before k₀ k hlt; omega
      · rw [if_neg hk, EReal.coe_le_coe_iff]
        refine le_trans ?_ hB
        have := step k₀
        exact_mod_cast (by omega : r ≤ a + n * m)
  · obtain ⟨k, hk, hk'⟩ := hrow s hs hs'
    exact ((h k).choose_spec.2.2.2.2.1 s hk hk').trans (hmax k)
  · obtain ⟨k, hk, hk'⟩ := hrow s hs (by have := step k₀; omega)
    rcases lt_trichotomy k k₀ with hlt | rfl | hlt
    · exact lt_of_le_of_lt ((h k).choose_spec.2.2.2.2.1 s hk hk') (hfirst k hlt)
    · exact hk₀ ▸ h6 s hk hs'
    · have := before k₀ k hlt; omega

end Cert.Column
-- ==== Proof.Value.lean ====
/-
  What the kernel and the reference compute, over the extended reals: both give, for every column of the whole array, its
  greatest entry and the first row at which that entry stands.
-/
module

public import proofs.«01_k».proof.Proof.Peak
public import proofs.«01_k».proof.Proof.KernelIdeal.Protocol
public import proofs.«01_k».proof.Proof.ReferenceIdeal.Run
public import Idealize.ShloMosaic.Lib.Pointwise
public import Idealize.ShloMosaic.Lib.IdealHost
public import Idealize.ShloMosaic.Lib.Layout
public import Idealize.ShloMosaic.PureOps.Ideal.Laws

@[expose] public section

noncomputable section

namespace Cert.Value

open Idealize.ShloMosaic Cert.KernelIdeal Cert.KernelIdeal.Gen Cert.KernelIdeal.Links Cert.Column

/-! ## The literals -/

/-- The word from which a maximum starts is −∞, -/
theorem word_bot : Ideal.ofBits .f32 0xFF800000#32 = ⊥ := by simp [Ideal.ofBits, Ideal.ieee]

/-- that from which a minimum starts +∞, -/
theorem word_top : Ideal.ofBits .f32 0x7F800000#32 = ⊤ := by simp [Ideal.ofBits, Ideal.ieee]

/-- the number given to a row that does not attain the maximum is 10⁹, -/
theorem word_far : Ideal.ofBits .f32 0x4E6E6B28#32 = ((1000000000 : ℝ) : EReal) := by
  simp [Ideal.ofBits, Ideal.ieee, -EReal.coe_mul]; norm_num

/-- and a device holds 512 rows. -/
theorem word_rows : Ideal.ofBits .f32 0x44000000#32 = ((512 : ℝ) : EReal) := by
  simp [Ideal.ofBits, Ideal.ieee, -EReal.coe_mul]; norm_num

/-- A small natural number kept as a 32-bit word is read back as itself. -/
theorem word_nat {r : ℕ} (h : r < 2 ^ 31) : (BitVec.ofNat 32 r).toInt = (r : ℤ) := by
  have e : (BitVec.ofNat 32 r).toNat = r := by rw [BitVec.toNat_ofNat]; omega
  rw [BitVec.toInt_eq_toNat_of_lt (by omega), e]

/-! ## The kernel's three stages, read at a column -/

/-- The greatest entry of a column of a device's own block; -/
theorem own_top (x : Vec Ideal S512x512 .f32) (j : Fin 512) :
    k0_pay2 (F := Ideal) x (ix2 0 j) = Finset.univ.fold max ⊥ fun k : Fin 512 => x (ix2 k j) := by
  pointwise [k0_pay2, k0_pay1]
  rw [word_bot]

/-- its first row, counted through the whole array. -/
theorem own_row (c : Dev nD) (x : Vec Ideal S512x512 .f32) (j : Fin 512) :
    k0_pay4 (F := Ideal) (mw c) x (ix2 0 j)
      = (Finset.univ.fold min ⊤ fun k : Fin 512 =>
          if x (ix2 k j) = Finset.univ.fold max ⊥ (fun k : Fin 512 => x (ix2 k j)) then ((k.val : ℝ) : EReal)
          else ((1000000000 : ℝ) : EReal)) + (((c.val * 512 : ℕ) : ℝ) : EReal) := by
  pointwise [k0_pay4, k0_pay1]
  have hc : c.val < 32 := c.isLt
  have hw : (mw c).toInt = (c.val : ℤ) := word_nat (by omega)
  rw [word_top, word_far, word_rows, own_top, hw, ← EReal.coe_mul]
  refine congrArg₂ (· + ·) (congrArg (fun g : Fin 512 → EReal => Finset.univ.fold min ⊤ g) (funext fun k => ?_)) ?_
  · have hk : ((BitVec.ofNat 32 k.val).toInt : ℤ) = (k.val : ℤ) := word_nat (by omega)
    show (if _ then (((BitVec.ofNat 32 k.val).toInt : ℝ) : EReal) else _) = _
    rw [hk]; rfl
  · push_cast; rfl

/-- The greatest of the eight entries gathered in a plane; -/
theorem plane_top (v : Vec Ideal S8x1x512 .f32) (j : Fin 512) :
    k0_pay7 (F := Ideal) v (ix2 0 j) = Finset.univ.fold max ⊥ fun k : Fin 8 => v (ix3 k 0 j) := by
  pointwise [k0_pay7, k0_pay6]
  rw [word_bot]

/-- the least of the rows that come with it. -/
theorem plane_row (v w : Vec Ideal S8x1x512 .f32) (j : Fin 512) :
    k0_pay9 (F := Ideal) v w (ix2 0 j)
      = Finset.univ.fold min ⊤ fun k : Fin 8 =>
          if v (ix3 k 0 j) = Finset.univ.fold max ⊥ (fun k : Fin 8 => v (ix3 k 0 j)) then w (ix3 k 0 j)
          else ((1000000000 : ℝ) : EReal) := by
  pointwise [k0_pay9, k0_pay6]
  rw [word_top, word_far, plane_top]

/-- The greatest of the four entries gathered along a column of planes; -/
theorem mesh_top (v : Vec Ideal S4x1x512 .f32) (j : Fin 512) :
    k0_pay12 (F := Ideal) v (ix2 0 j) = Finset.univ.fold max ⊥ fun k : Fin 4 => v (ix3 k 0 j) := by
  pointwise [k0_pay12, k0_pay11]
  rw [word_bot]

/-- the least of the rows that come with it. -/
theorem mesh_row (v w : Vec Ideal S4x1x512 .f32) (j : Fin 512) :
    k0_pay13 (F := Ideal) v w (ix2 0 j)
      = Finset.univ.fold min ⊤ fun k : Fin 4 =>
          if v (ix3 k 0 j) = Finset.univ.fold max ⊥ (fun k : Fin 4 => v (ix3 k 0 j)) then w (ix3 k 0 j)
          else ((1000000000 : ℝ) : EReal) := by
  pointwise [k0_pay13, k0_pay11]
  rw [word_top, word_far, mesh_top]

/-! ## The kernel -/

/-- Column `j` of the whole array, row by row. -/
def col (x : FVec Ideal Cert.ReferenceIdeal.S16384x512 .f32) (j : Fin 512) (r : ℕ) : EReal :=
  if h : r < 16384 then x (ix2 ⟨r, h⟩ j) else ⊥

/-- The rows that each device holds of the whole array. -/
def shard (x : FVec Ideal Cert.ReferenceIdeal.S16384x512 .f32) (c : Dev nD) : Vec Ideal S512x512 .f32 :=
  Layout.block ⟨2, ![512, 512]⟩ ⟨2, ![16384, 512]⟩ 0 32 c x

variable (x : FVec Ideal Cert.ReferenceIdeal.S16384x512 .f32)

/-- Row `k` of device `c`'s block is row `512 c + k` of the array. -/
theorem shard_apply (c : Dev nD) (k j : Fin 512) : shard x c (ix2 k j) = col x j (c.val * 512 + k.val) := by
  have hc : c.val < 32 := c.isLt
  unfold col
  rw [dif_pos (by omega)]
  exact congrArg x (Shape.idx_ext₂ rfl rfl)

/-- What a device puts together from its own rows is their peak, -/
theorem own_peak (c : Dev nD) (j : Fin 512) :
    Peak (col x j) (c.val * 512) (c.val * 512 + 512) (stC (shard x) c (ix2 0 j)) (stC (shard x) c (ix2 1 j)) := by
  show Peak _ _ _ (k0_pay3 (F := Ideal) (shard x c) (ix2 0 j)) (k0_pay4 (F := Ideal) (mw c) (shard x c) (ix2 0 j))
  rw [show k0_pay3 (F := Ideal) (shard x c) (ix2 0 j) = k0_pay2 (F := Ideal) (shard x c) (ix2 0 j) by pointwise [k0_pay3],
    own_top, own_row]
  simp only [shard_apply]
  refine Peak.shift ?_
  exact Peak.join (f := fun r => col x j (c.val * 512 + r)) (n := 512) (m := 1) (a := 0) (by omega) (by norm_num) fun k => by
    rw [Nat.zero_add, Nat.mul_one]
    exact Peak.single (fun r => col x j (c.val * 512 + r)) k.val

/-- what it puts together from its plane is the peak of the plane's rows, -/
theorem plane_peak (c : Dev nD) (j : Fin 512) :
    Peak (col x j) (c.val / 8 * 4096) (c.val / 8 * 4096 + 4096) (st2C (shard x) c (ix2 0 j)) (st2C (shard x) c (ix2 1 j)) := by
  have hc : c.val < 32 := c.isLt
  show Peak _ _ _ (k0_pay8 (F := Ideal) (gat8 (plX (shard x) c) 0) (ix2 0 j))
    (k0_pay9 (F := Ideal) (gat8 (plX (shard x) c) 0) (gat8 (plX (shard x) c) 1) (ix2 0 j))
  rw [show ∀ v, k0_pay8 (F := Ideal) v (ix2 0 j) = k0_pay7 (F := Ideal) v (ix2 0 j) from fun v => by pointwise [k0_pay8],
    plane_top, plane_row]
  refine Peak.join (n := 8) (m := 512) (by omega) ?_ fun k => ?_
  · exact_mod_cast (by omega : c.val / 8 * 4096 + 8 * 512 ≤ 1000000000)
  · have h := own_peak x (peer c ⟨k.val, by omega⟩) j
    have e : (peer c ⟨k.val, by omega⟩).val * 512 = c.val / 8 * 4096 + k.val * 512 := by
      have : (peer c ⟨k.val, by omega⟩).val = c.val / 8 * 8 + k.val := by
        have hk := k.isLt
        unfold peer; rw [if_pos (by show k.val < 8; omega)]; show c.val / 8 * 8 + k.val % 8 = _; omega
      omega
    rw [e] at h
    exact h

/-- and what it puts together from the column of planes is the peak of the whole array. -/
theorem mesh_peak (c : Dev nD) (j : Fin 512) :
    Peak (col x j) 0 16384 (outC (shard x) c (ix2 0 j)) (outC (shard x) c (ix2 1 j)) := by
  show Peak _ _ _ (k0_pay12 (F := Ideal) (gat4 (zcX (shard x) c) 0) (ix2 0 j))
    (k0_pay13 (F := Ideal) (gat4 (zcX (shard x) c) 0) (gat4 (zcX (shard x) c) 1) (ix2 0 j))
  rw [mesh_top, mesh_row]
  refine Peak.join (n := 4) (m := 4096) (a := 0) (by omega) (by norm_num) fun k => ?_
  have h := plane_peak x (peer c ⟨8 + k.val, by omega⟩) j
  have e : (peer c ⟨8 + k.val, by omega⟩).val / 8 * 4096 = 0 + k.val * 4096 := by
    have hk := k.isLt
    have : (peer c ⟨8 + k.val, by omega⟩).val = k.val * 8 + c.val % 8 := by
      unfold peer; rw [if_neg (by show ¬8 + k.val < 8; omega)]; show (8 + k.val - 8) * 8 + c.val % 8 = _; omega
    omega
  rw [e] at h
  exact h

/-! ## The reference -/

/-- One step of the argmax: the pair so far stays if its value is greater, or equal at a smaller row. -/
theorem step_keep (v : EReal) (i k : BitVec 32) (u : EReal) (h : u < v ∨ u = v ∧ i.slt k = true) :
    Cert.ReferenceIdeal.reducer_argmax_f32_i32 (F := Ideal) (v, i) (u, k) = (v, i) := by
  rcases h with h | ⟨rfl, h⟩
  · simp [Cert.ReferenceIdeal.reducer_argmax_f32_i32, Ideal.cmpf_def, Ideal.cmp, IntOp.ori, IntOp.andi, IntOp.cmpi, Scalar.select, h]
    generalize (decide (v = u) && i.slt k) = b
    cases b <;> simp
  · simp [Cert.ReferenceIdeal.reducer_argmax_f32_i32, Ideal.cmpf_def, Ideal.cmp, IntOp.ori, IntOp.andi, IntOp.cmpi, Scalar.select, h]

/-- The new pair takes its place if its value is greater. -/
theorem step_take (v : EReal) (i k : BitVec 32) (u : EReal) (h : v < u) :
    Cert.ReferenceIdeal.reducer_argmax_f32_i32 (F := Ideal) (v, i) (u, k) = (u, k) := by
  have h' : ¬u < v := not_lt.mpr h.le
  simp [Cert.ReferenceIdeal.reducer_argmax_f32_i32, Ideal.cmpf_def, Ideal.cmp, IntOp.ori, IntOp.andi, IntOp.cmpi, Scalar.select, h', h.ne]

/-- The first entry always takes its place over the start (−∞, 0), for its row is 0 too. -/
theorem step_start (u : EReal) :
    Cert.ReferenceIdeal.reducer_argmax_f32_i32 (F := Ideal) (⊥, 0#32) (u, 0#32) = (u, 0#32) := by
  by_cases h : u = ⊥
  · subst h
    simp [Cert.ReferenceIdeal.reducer_argmax_f32_i32, Ideal.cmpf_def, Ideal.cmp, IntOp.ori, IntOp.andi, IntOp.cmpi, Scalar.select]
  · exact step_take _ _ _ _ (bot_lt_iff_ne_bot.mpr h)

/-- The pair that the argmax holds after `n` rows of the column `f`. -/
def held (f : ℕ → EReal) (n : ℕ) : EReal × BitVec 32 :=
  (List.range n).foldl (fun p r => Cert.ReferenceIdeal.reducer_argmax_f32_i32 (F := Ideal) p (f r, BitVec.ofNat 32 r)) (⊥, 0#32)

/-- After any number of rows, but for none, it is the greatest of them with its first row. -/
theorem held_peak (f : ℕ → EReal) (n : ℕ) (hn : n < 2 ^ 31) :
    ∃ r : ℕ, r ≤ n ∧ held f (n + 1) = (f r, BitVec.ofNat 32 r) ∧ (∀ s, s ≤ n → f s ≤ f r) ∧ ∀ s, s < r → f s < f r := by
  induction n with
  | zero =>
    refine ⟨0, le_rfl, ?_, fun s hs => by rw [show s = 0 by omega], fun s hs => by omega⟩
    exact step_start (f 0)
  | succ n ih =>
    obtain ⟨r, hr, he, hle, hlt⟩ := ih (by omega)
    have hs : held f (n + 1 + 1)
        = Cert.ReferenceIdeal.reducer_argmax_f32_i32 (F := Ideal) (held f (n + 1)) (f (n + 1), BitVec.ofNat 32 (n + 1)) := by
      unfold held; rw [List.range_succ (n := n + 1), List.foldl_append]; rfl
    rw [hs, he]
    rcases lt_or_ge (f r) (f (n + 1)) with h | h
    · refine ⟨n + 1, le_rfl, step_take _ _ _ _ h, fun s hs => ?_, fun s hs => lt_of_le_of_lt (hle s (by omega)) h⟩
      rcases Nat.lt_succ_iff_lt_or_eq.mp (Nat.lt_succ_of_le hs) with h' | rfl
      · exact (hle s (by omega)).trans h.le
      · exact le_rfl
    · refine ⟨r, by omega, step_keep _ _ _ _ ?_, fun s hs => ?_, hlt⟩
      · rcases lt_or_eq_of_le h with h' | h'
        · exact .inl h'
        · refine .inr ⟨h', ?_⟩
          rw [BitVec.slt_eq_decide, word_nat (by omega), word_nat (by omega)]
          exact decide_eq_true (by omega)
      · rcases Nat.lt_succ_iff_lt_or_eq.mp (Nat.lt_succ_of_le hs) with h' | rfl
        · exact hle s (by omega)
        · exact h

/-- The reference's argmax runs down the column. -/
theorem pair_held (j : Fin 512) : Cert.ReferenceIdeal.Line.pair (F := Ideal) x (ix1 j) = held (col x j) 16384 := by
  unfold Cert.ReferenceIdeal.Line.pair held
  rw [Ideal.argReduce_eq_reduce2]
  have h : (⟨2, ![16384, 512]⟩ : Shape).Reduces [0] ⟨1, ![512]⟩ := by decide
  refine (reduceFold_rows h (Cert.ReferenceIdeal.reducer_argmax_f32_i32 (F := Ideal)) (Ideal.ofBits .f32 0xFF800000#32, 0#32)
    (fun i => (x i, BitVec.ofNat 32 (i 0).val)) (ix1 j)).trans ?_
  rw [word_bot, ← List.map_coe_finRange_eq_range, List.foldl_map]
  refine List.foldl_ext _ _ _ fun p r _ => ?_
  have hr : r.val < 16384 := r.isLt
  have e : x (Shape.pair r (h.col (ix1 j))) = col x j r.val := by
    unfold col; rw [dif_pos hr]; exact congrArg x (Shape.idx_ext₂ rfl rfl)
  rw [e]; rfl

/-- The first row of the reference's result holds each column's greatest entry, -/
theorem result_top (j : Fin 512) :
    Cert.ReferenceIdeal.Line.result (F := Ideal) x (ix2 0 j) = Finset.univ.fold max ⊥ fun r : Fin 16384 => x (ix2 r j) := by
  pointwise [Cert.ReferenceIdeal.Line.result]
  rw [word_bot]

/-- the second the argmax, as a number. -/
theorem result_row (j : Fin 512) :
    Cert.ReferenceIdeal.Line.result (F := Ideal) x (ix2 1 j)
      = (((Cert.ReferenceIdeal.Line.pair (F := Ideal) x (ix1 j)).2.toInt : ℝ) : EReal) := by
  pointwise [Cert.ReferenceIdeal.Line.result]
  rfl

/-- The reference's result is the peak of every column. -/
theorem result_peak (j : Fin 512) :
    Peak (col x j) 0 16384 (Cert.ReferenceIdeal.Line.result (F := Ideal) x (ix2 0 j))
      (Cert.ReferenceIdeal.Line.result (F := Ideal) x (ix2 1 j)) := by
  obtain ⟨r, hr, he, hle, hlt⟩ := held_peak (col x j) 16383 (by omega)
  rw [result_top, result_row, pair_held, he]
  have e : (fun r : Fin 16384 => x (ix2 r j)) = fun r : Fin 16384 => col x j r.val :=
    funext fun r => by unfold col; rw [dif_pos r.isLt]
  rw [e]
  have top : Finset.univ.fold max ⊥ (fun r : Fin 16384 => col x j r.val) = col x j r :=
    le_antisymm ((Finset.fold_max_le _).mpr ⟨bot_le, fun k _ => hle k.val (by have := k.isLt; omega)⟩)
      (le_best (fun r : Fin 16384 => col x j r.val) ⟨r, by omega⟩)
  rw [top]
  refine ⟨r, Nat.zero_le r, by omega, rfl, ?_, fun s _ hs => hle s (by omega), fun s _ hs => hlt s hs⟩
  show (((BitVec.ofNat 32 r).toInt : ℝ) : EReal) = _
  rw [word_nat (by omega)]; rfl

/-! ## Both together -/

/-- Every device's result is the reference's. -/
theorem same (c : Dev nD) : outC (shard x) c = Cert.ReferenceIdeal.Line.result (F := Ideal) x := by
  funext i
  have h := (mesh_peak x c (i 1)).unique (result_peak x (i 1))
  have hi : (i 0).val < 2 := (i 0).isLt
  rcases (by omega : (i 0).val = 0 ∨ (i 0).val = 1) with h0 | h0
  · rw [show i = ix2 (0 : Fin 2) (i 1) from Shape.idx_ext₂ h0 rfl]; exact h.1
  · rw [show i = ix2 (1 : Fin 2) (i 1) from Shape.idx_ext₂ h0 rfl]; exact h.2

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Launch
public import proofs.«01_k».proof.Proof.KernelIdeal.Launch
public import proofs.«01_k».proof.Proof.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel at machine floats: from any memory every run returns, leaves the arguments alone and every counter at zero. -/
theorem frame_kernel : Cert.quiescent_Kernel := fun m ρ _ =>
  (θ_run Cert.Kernel.defs _ _).mono (fun _ h => ⟨fun c => (h.1 c).2, h.2⟩) (Cert.Kernel.Links.run (F := Bits) m ρ)

/-- The same of the kernel over the extended reals. -/
theorem frame_kernelIdeal : Cert.quiescent_KernelIdeal := fun m ρ _ =>
  (θ_run Cert.KernelIdeal.defs _ _).mono (fun _ h => ⟨fun c => (h.1 c).2, h.2⟩) (Cert.KernelIdeal.Links.run (F := Ideal) m ρ)

/-- The same of the reference. -/
theorem frame_referenceIdeal : Cert.quiescent_ReferenceIdeal := fun m ρ _ =>
  (θ_run Cert.ReferenceIdeal.defs _ _).mono (fun _ h => ⟨fun c => by rw [Subsingleton.elim c 0]; exact h.1.2, h.2⟩)
    (Cert.ReferenceIdeal.Line.run (F := Ideal) m ρ)

/-- Every device of the kernel ends with the reference's result: each column's greatest entry and its first row. -/
theorem value : Cert.algebraic_KernelIdeal_ReferenceIdeal := by
  intro m ρ m' ρ' _ hx
  let x := m' (((0 : Dev Cert.ReferenceIdeal.nD).tc : Thread _ Cert.ReferenceIdeal.τ).loc Cert.ReferenceIdeal.main_arg0)
  refine ⟨Cert.ReferenceIdeal.Line.result (F := Ideal) x, ?_, ?_⟩
  · refine (θ_run Cert.KernelIdeal.defs _ _).mono (fun _ h c => ⟨(h.1 c).1.trans ?_, (h.1 c).2⟩)
      (Cert.KernelIdeal.Links.run (F := Ideal) m ρ)
    rw [show (fun d : Dev Cert.KernelIdeal.nD => m ((d.tc : Thread _ Cert.KernelIdeal.τ).loc Cert.KernelIdeal.main_arg0))
        = Cert.Value.shard x from funext hx]
    exact Cert.Value.same x c
  · exact (θ_run Cert.ReferenceIdeal.defs _ _).mono (fun _ h => h.1) (Cert.ReferenceIdeal.Line.run (F := Ideal) m' ρ')

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
